-- ==== Defs.lean ====
def Pre_Kernel [hPre_pi_0123_Kernel : Cert.Pre_pi_0123_Kernel.Facts] (m : (ℓ : Loc Cert.Kernel.nD Cert.Kernel.τ Cert.Kernel.sig) → Buf (Elt Bits) ℓ) : Prop :=
  ∀ c : Dev Cert.Kernel.nD,
    (Cert.Pre_pi_0123_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_0132_Kernel [hPre_pi_0132_Kernel : Cert.Pre_pi_0132_Kernel.Facts] (m : (ℓ : Loc Cert.Kernel.nD Cert.Kernel.τ Cert.Kernel.sig) → Buf (Elt Bits) ℓ) : Prop :=
  ∀ c : Dev Cert.Kernel.nD,
    (Cert.Pre_pi_0132_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_0213_Kernel [hPre_pi_0213_Kernel : Cert.Pre_pi_0213_Kernel.Facts] (m : (ℓ : Loc Cert.Kernel.nD Cert.Kernel.τ Cert.Kernel.sig) → Buf (Elt Bits) ℓ) : Prop :=
  ∀ c : Dev Cert.Kernel.nD,
    (Cert.Pre_pi_0213_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_0231_Kernel [hPre_pi_0231_Kernel : Cert.Pre_pi_0231_Kernel.Facts] (m : (ℓ : Loc Cert.Kernel.nD Cert.Kernel.τ Cert.Kernel.sig) → Buf (Elt Bits) ℓ) : Prop :=
  ∀ c : Dev Cert.Kernel.nD,
    (Cert.Pre_pi_0231_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_0312_Kernel [hPre_pi_0312_Kernel : Cert.Pre_pi_0312_Kernel.Facts] (m : (ℓ : Loc Cert.Kernel.nD Cert.Kernel.τ Cert.Kernel.sig) → Buf (Elt Bits) ℓ) : Prop :=
  ∀ c : Dev Cert.Kernel.nD,
    (Cert.Pre_pi_0312_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_0321_Kernel [hPre_pi_0321_Kernel : Cert.Pre_pi_0321_Kernel.Facts] (m : (ℓ : Loc Cert.Kernel.nD Cert.Kernel.τ Cert.Kernel.sig) → Buf (Elt Bits) ℓ) : Prop :=
  ∀ c : Dev Cert.Kernel.nD,
    (Cert.Pre_pi_0321_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1023_Kernel [hPre_pi_1023_Kernel : Cert.Pre_pi_1023_Kernel.Facts] (m : (ℓ : Loc Cert.Kernel.nD Cert.Kernel.τ Cert.Kernel.sig) → Buf (Elt Bits) ℓ) : Prop :=
  ∀ c : Dev Cert.Kernel.nD,
    (Cert.Pre_pi_1023_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1032_Kernel [hPre_pi_1032_Kernel : Cert.Pre_pi_1032_Kernel.Facts] (m : (ℓ : Loc Cert.Kernel.nD Cert.Kernel.τ Cert.Kernel.sig) → Buf (Elt Bits) ℓ) : Prop :=
  ∀ c : Dev Cert.Kernel.nD,
    (Cert.Pre_pi_1032_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1203_Kernel [hPre_pi_1203_Kernel : Cert.Pre_pi_1203_Kernel.Facts] (m : (ℓ : Loc Cert.Kernel.nD Cert.Kernel.τ Cert.Kernel.sig) → Buf (Elt Bits) ℓ) : Prop :=
  ∀ c : Dev Cert.Kernel.nD,
    (Cert.Pre_pi_1203_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1230_Kernel [hPre_pi_1230_Kernel : Cert.Pre_pi_1230_Kernel.Facts] (m : (ℓ : Loc Cert.Kernel.nD Cert.Kernel.τ Cert.Kernel.sig) → Buf (Elt Bits) ℓ) : Prop :=
  ∀ c : Dev Cert.Kernel.nD,
    (Cert.Pre_pi_1230_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1302_Kernel [hPre_pi_1302_Kernel : Cert.Pre_pi_1302_Kernel.Facts] (m : (ℓ : Loc Cert.Kernel.nD Cert.Kernel.τ Cert.Kernel.sig) → Buf (Elt Bits) ℓ) : Prop :=
  ∀ c : Dev Cert.Kernel.nD,
    (Cert.Pre_pi_1302_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1320_Kernel [hPre_pi_1320_Kernel : Cert.Pre_pi_1320_Kernel.Facts] (m : (ℓ : Loc Cert.Kernel.nD Cert.Kernel.τ Cert.Kernel.sig) → Buf (Elt Bits) ℓ) : Prop :=
  ∀ c : Dev Cert.Kernel.nD,
    (Cert.Pre_pi_1320_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2013_Kernel [hPre_pi_2013_Kernel : Cert.Pre_pi_2013_Kernel.Facts] (m : (ℓ : Loc Cert.Kernel.nD Cert.Kernel.τ Cert.Kernel.sig) → Buf (Elt Bits) ℓ) : Prop :=
  ∀ c : Dev Cert.Kernel.nD,
    (Cert.Pre_pi_2013_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2031_Kernel [hPre_pi_2031_Kernel : Cert.Pre_pi_2031_Kernel.Facts] (m : (ℓ : Loc Cert.Kernel.nD Cert.Kernel.τ Cert.Kernel.sig) → Buf (Elt Bits) ℓ) : Prop :=
  ∀ c : Dev Cert.Kernel.nD,
    (Cert.Pre_pi_2031_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2103_Kernel [hPre_pi_2103_Kernel : Cert.Pre_pi_2103_Kernel.Facts] (m : (ℓ : Loc Cert.Kernel.nD Cert.Kernel.τ Cert.Kernel.sig) → Buf (Elt Bits) ℓ) : Prop :=
  ∀ c : Dev Cert.Kernel.nD,
    (Cert.Pre_pi_2103_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2130_Kernel [hPre_pi_2130_Kernel : Cert.Pre_pi_2130_Kernel.Facts] (m : (ℓ : Loc Cert.Kernel.nD Cert.Kernel.τ Cert.Kernel.sig) → Buf (Elt Bits) ℓ) : Prop :=
  ∀ c : Dev Cert.Kernel.nD,
    (Cert.Pre_pi_2130_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2301_Kernel [hPre_pi_2301_Kernel : Cert.Pre_pi_2301_Kernel.Facts] (m : (ℓ : Loc Cert.Kernel.nD Cert.Kernel.τ Cert.Kernel.sig) → Buf (Elt Bits) ℓ) : Prop :=
  ∀ c : Dev Cert.Kernel.nD,
    (Cert.Pre_pi_2301_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2310_Kernel [hPre_pi_2310_Kernel : Cert.Pre_pi_2310_Kernel.Facts] (m : (ℓ : Loc Cert.Kernel.nD Cert.Kernel.τ Cert.Kernel.sig) → Buf (Elt Bits) ℓ) : Prop :=
  ∀ c : Dev Cert.Kernel.nD,
    (Cert.Pre_pi_2310_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3012_Kernel [hPre_pi_3012_Kernel : Cert.Pre_pi_3012_Kernel.Facts] (m : (ℓ : Loc Cert.Kernel.nD Cert.Kernel.τ Cert.Kernel.sig) → Buf (Elt Bits) ℓ) : Prop :=
  ∀ c : Dev Cert.Kernel.nD,
    (Cert.Pre_pi_3012_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3021_Kernel [hPre_pi_3021_Kernel : Cert.Pre_pi_3021_Kernel.Facts] (m : (ℓ : Loc Cert.Kernel.nD Cert.Kernel.τ Cert.Kernel.sig) → Buf (Elt Bits) ℓ) : Prop :=
  ∀ c : Dev Cert.Kernel.nD,
    (Cert.Pre_pi_3021_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3102_Kernel [hPre_pi_3102_Kernel : Cert.Pre_pi_3102_Kernel.Facts] (m : (ℓ : Loc Cert.Kernel.nD Cert.Kernel.τ Cert.Kernel.sig) → Buf (Elt Bits) ℓ) : Prop :=
  ∀ c : Dev Cert.Kernel.nD,
    (Cert.Pre_pi_3102_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3120_Kernel [hPre_pi_3120_Kernel : Cert.Pre_pi_3120_Kernel.Facts] (m : (ℓ : Loc Cert.Kernel.nD Cert.Kernel.τ Cert.Kernel.sig) → Buf (Elt Bits) ℓ) : Prop :=
  ∀ c : Dev Cert.Kernel.nD,
    (Cert.Pre_pi_3120_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3201_Kernel [hPre_pi_3201_Kernel : Cert.Pre_pi_3201_Kernel.Facts] (m : (ℓ : Loc Cert.Kernel.nD Cert.Kernel.τ Cert.Kernel.sig) → Buf (Elt Bits) ℓ) : Prop :=
  ∀ c : Dev Cert.Kernel.nD,
    (Cert.Pre_pi_3201_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3210_Kernel [hPre_pi_3210_Kernel : Cert.Pre_pi_3210_Kernel.Facts] (m : (ℓ : Loc Cert.Kernel.nD Cert.Kernel.τ Cert.Kernel.sig) → Buf (Elt Bits) ℓ) : Prop :=
  ∀ c : Dev Cert.Kernel.nD,
    (Cert.Pre_pi_3210_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pi_0123_Kernel : Cert.Pre_pi_0123_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0123_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_0132_Kernel [hPre_pi_0132_Kernel : Cert.Pre_pi_0132_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0132_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_0213_Kernel [hPre_pi_0213_Kernel : Cert.Pre_pi_0213_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0213_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_0231_Kernel [hPre_pi_0231_Kernel : Cert.Pre_pi_0231_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0231_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_0312_Kernel [hPre_pi_0312_Kernel : Cert.Pre_pi_0312_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0312_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_0321_Kernel [hPre_pi_0321_Kernel : Cert.Pre_pi_0321_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0321_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1023_Kernel [hPre_pi_1023_Kernel : Cert.Pre_pi_1023_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1023_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1032_Kernel [hPre_pi_1032_Kernel : Cert.Pre_pi_1032_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1032_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1203_Kernel [hPre_pi_1203_Kernel : Cert.Pre_pi_1203_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1203_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1230_Kernel [hPre_pi_1230_Kernel : Cert.Pre_pi_1230_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1230_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1302_Kernel [hPre_pi_1302_Kernel : Cert.Pre_pi_1302_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1302_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1320_Kernel [hPre_pi_1320_Kernel : Cert.Pre_pi_1320_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1320_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2013_Kernel [hPre_pi_2013_Kernel : Cert.Pre_pi_2013_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2013_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2031_Kernel [hPre_pi_2031_Kernel : Cert.Pre_pi_2031_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2031_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2103_Kernel [hPre_pi_2103_Kernel : Cert.Pre_pi_2103_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2103_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2130_Kernel [hPre_pi_2130_Kernel : Cert.Pre_pi_2130_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2130_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2301_Kernel [hPre_pi_2301_Kernel : Cert.Pre_pi_2301_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2301_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2310_Kernel [hPre_pi_2310_Kernel : Cert.Pre_pi_2310_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2310_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3012_Kernel [hPre_pi_3012_Kernel : Cert.Pre_pi_3012_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3012_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3021_Kernel [hPre_pi_3021_Kernel : Cert.Pre_pi_3021_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3021_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3102_Kernel [hPre_pi_3102_Kernel : Cert.Pre_pi_3102_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3102_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3120_Kernel [hPre_pi_3120_Kernel : Cert.Pre_pi_3120_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3120_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3201_Kernel [hPre_pi_3201_Kernel : Cert.Pre_pi_3201_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3201_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3210_Kernel [hPre_pi_3210_Kernel : Cert.Pre_pi_3210_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3210_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pi_0123_ReferenceIdeal [hPre_pi_0123_ReferenceIdeal : Cert.Pre_pi_0123_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0123_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_0132_ReferenceIdeal [hPre_pi_0132_ReferenceIdeal : Cert.Pre_pi_0132_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0132_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_0213_ReferenceIdeal [hPre_pi_0213_ReferenceIdeal : Cert.Pre_pi_0213_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0213_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_0231_ReferenceIdeal [hPre_pi_0231_ReferenceIdeal : Cert.Pre_pi_0231_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0231_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_0312_ReferenceIdeal [hPre_pi_0312_ReferenceIdeal : Cert.Pre_pi_0312_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0312_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_0321_ReferenceIdeal [hPre_pi_0321_ReferenceIdeal : Cert.Pre_pi_0321_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0321_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1023_ReferenceIdeal [hPre_pi_1023_ReferenceIdeal : Cert.Pre_pi_1023_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1023_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1032_ReferenceIdeal [hPre_pi_1032_ReferenceIdeal : Cert.Pre_pi_1032_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1032_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1203_ReferenceIdeal [hPre_pi_1203_ReferenceIdeal : Cert.Pre_pi_1203_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1203_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1230_ReferenceIdeal [hPre_pi_1230_ReferenceIdeal : Cert.Pre_pi_1230_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1230_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1302_ReferenceIdeal [hPre_pi_1302_ReferenceIdeal : Cert.Pre_pi_1302_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1302_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1320_ReferenceIdeal [hPre_pi_1320_ReferenceIdeal : Cert.Pre_pi_1320_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1320_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2013_ReferenceIdeal [hPre_pi_2013_ReferenceIdeal : Cert.Pre_pi_2013_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2013_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2031_ReferenceIdeal [hPre_pi_2031_ReferenceIdeal : Cert.Pre_pi_2031_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2031_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2103_ReferenceIdeal [hPre_pi_2103_ReferenceIdeal : Cert.Pre_pi_2103_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2103_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2130_ReferenceIdeal [hPre_pi_2130_ReferenceIdeal : Cert.Pre_pi_2130_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2130_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2301_ReferenceIdeal [hPre_pi_2301_ReferenceIdeal : Cert.Pre_pi_2301_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2301_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2310_ReferenceIdeal [hPre_pi_2310_ReferenceIdeal : Cert.Pre_pi_2310_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2310_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3012_ReferenceIdeal [hPre_pi_3012_ReferenceIdeal : Cert.Pre_pi_3012_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3012_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3021_ReferenceIdeal [hPre_pi_3021_ReferenceIdeal : Cert.Pre_pi_3021_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3021_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3102_ReferenceIdeal [hPre_pi_3102_ReferenceIdeal : Cert.Pre_pi_3102_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3102_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3120_ReferenceIdeal [hPre_pi_3120_ReferenceIdeal : Cert.Pre_pi_3120_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3120_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3201_ReferenceIdeal [hPre_pi_3201_ReferenceIdeal : Cert.Pre_pi_3201_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3201_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3210_ReferenceIdeal [hPre_pi_3210_ReferenceIdeal : Cert.Pre_pi_3210_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3210_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_pi_0123_Kernel : Cert.Pre_pi_0123_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_0132_Kernel [hKernel : Cert.Kernel.Facts] [hPre_pi_0132_Kernel : Cert.Pre_pi_0132_Kernel.Facts] : Prop :=
  ∀ (m : (ℓ : Loc Cert.Kernel.nD Cert.Kernel.τ Cert.Kernel.sig) → Buf (Elt Bits) ℓ) (g : Dev Cert.Kernel.nD → PrngReg), Pre_Kernel_pi_0132_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_0213_Kernel [hKernel : Cert.Kernel.Facts] [hPre_pi_0213_Kernel : Cert.Pre_pi_0213_Kernel.Facts] : Prop :=
  ∀ (m : (ℓ : Loc Cert.Kernel.nD Cert.Kernel.τ Cert.Kernel.sig) → Buf (Elt Bits) ℓ) (g : Dev Cert.Kernel.nD → PrngReg), Pre_Kernel_pi_0213_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_0231_Kernel [hKernel : Cert.Kernel.Facts] [hPre_pi_0231_Kernel : Cert.Pre_pi_0231_Kernel.Facts] : Prop :=
  ∀ (m : (ℓ : Loc Cert.Kernel.nD Cert.Kernel.τ Cert.Kernel.sig) → Buf (Elt Bits) ℓ) (g : Dev Cert.Kernel.nD → PrngReg), Pre_Kernel_pi_0231_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_0312_Kernel [hKernel : Cert.Kernel.Facts] [hPre_pi_0312_Kernel : Cert.Pre_pi_0312_Kernel.Facts] : Prop :=
  ∀ (m : (ℓ : Loc Cert.Kernel.nD Cert.Kernel.τ Cert.Kernel.sig) → Buf (Elt Bits) ℓ) (g : Dev Cert.Kernel.nD → PrngReg), Pre_Kernel_pi_0312_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_0321_Kernel [hKernel : Cert.Kernel.Facts] [hPre_pi_0321_Kernel : Cert.Pre_pi_0321_Kernel.Facts] : Prop :=
  ∀ (m : (ℓ : Loc Cert.Kernel.nD Cert.Kernel.τ Cert.Kernel.sig) → Buf (Elt Bits) ℓ) (g : Dev Cert.Kernel.nD → PrngReg), Pre_Kernel_pi_0321_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1023_Kernel [hKernel : Cert.Kernel.Facts] [hPre_pi_1023_Kernel : Cert.Pre_pi_1023_Kernel.Facts] : Prop :=
  ∀ (m : (ℓ : Loc Cert.Kernel.nD Cert.Kernel.τ Cert.Kernel.sig) → Buf (Elt Bits) ℓ) (g : Dev Cert.Kernel.nD → PrngReg), Pre_Kernel_pi_1023_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1032_Kernel [hKernel : Cert.Kernel.Facts] [hPre_pi_1032_Kernel : Cert.Pre_pi_1032_Kernel.Facts] : Prop :=
  ∀ (m : (ℓ : Loc Cert.Kernel.nD Cert.Kernel.τ Cert.Kernel.sig) → Buf (Elt Bits) ℓ) (g : Dev Cert.Kernel.nD → PrngReg), Pre_Kernel_pi_1032_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1203_Kernel [hKernel : Cert.Kernel.Facts] [hPre_pi_1203_Kernel : Cert.Pre_pi_1203_Kernel.Facts] : Prop :=
  ∀ (m : (ℓ : Loc Cert.Kernel.nD Cert.Kernel.τ Cert.Kernel.sig) → Buf (Elt Bits) ℓ) (g : Dev Cert.Kernel.nD → PrngReg), Pre_Kernel_pi_1203_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1230_Kernel [hKernel : Cert.Kernel.Facts] [hPre_pi_1230_Kernel : Cert.Pre_pi_1230_Kernel.Facts] : Prop :=
  ∀ (m : (ℓ : Loc Cert.Kernel.nD Cert.Kernel.τ Cert.Kernel.sig) → Buf (Elt Bits) ℓ) (g : Dev Cert.Kernel.nD → PrngReg), Pre_Kernel_pi_1230_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1302_Kernel [hKernel : Cert.Kernel.Facts] [hPre_pi_1302_Kernel : Cert.Pre_pi_1302_Kernel.Facts] : Prop :=
  ∀ (m : (ℓ : Loc Cert.Kernel.nD Cert.Kernel.τ Cert.Kernel.sig) → Buf (Elt Bits) ℓ) (g : Dev Cert.Kernel.nD → PrngReg), Pre_Kernel_pi_1302_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1320_Kernel [hKernel : Cert.Kernel.Facts] [hPre_pi_1320_Kernel : Cert.Pre_pi_1320_Kernel.Facts] : Prop :=
  ∀ (m : (ℓ : Loc Cert.Kernel.nD Cert.Kernel.τ Cert.Kernel.sig) → Buf (Elt Bits) ℓ) (g : Dev Cert.Kernel.nD → PrngReg), Pre_Kernel_pi_1320_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2013_Kernel [hKernel : Cert.Kernel.Facts] [hPre_pi_2013_Kernel : Cert.Pre_pi_2013_Kernel.Facts] : Prop :=
  ∀ (m : (ℓ : Loc Cert.Kernel.nD Cert.Kernel.τ Cert.Kernel.sig) → Buf (Elt Bits) ℓ) (g : Dev Cert.Kernel.nD → PrngReg), Pre_Kernel_pi_2013_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2031_Kernel [hKernel : Cert.Kernel.Facts] [hPre_pi_2031_Kernel : Cert.Pre_pi_2031_Kernel.Facts] : Prop :=
  ∀ (m : (ℓ : Loc Cert.Kernel.nD Cert.Kernel.τ Cert.Kernel.sig) → Buf (Elt Bits) ℓ) (g : Dev Cert.Kernel.nD → PrngReg), Pre_Kernel_pi_2031_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2103_Kernel [hKernel : Cert.Kernel.Facts] [hPre_pi_2103_Kernel : Cert.Pre_pi_2103_Kernel.Facts] : Prop :=
  ∀ (m : (ℓ : Loc Cert.Kernel.nD Cert.Kernel.τ Cert.Kernel.sig) → Buf (Elt Bits) ℓ) (g : Dev Cert.Kernel.nD → PrngReg), Pre_Kernel_pi_2103_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2130_Kernel [hKernel : Cert.Kernel.Facts] [hPre_pi_2130_Kernel : Cert.Pre_pi_2130_Kernel.Facts] : Prop :=
  ∀ (m : (ℓ : Loc Cert.Kernel.nD Cert.Kernel.τ Cert.Kernel.sig) → Buf (Elt Bits) ℓ) (g : Dev Cert.Kernel.nD → PrngReg), Pre_Kernel_pi_2130_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2301_Kernel [hKernel : Cert.Kernel.Facts] [hPre_pi_2301_Kernel : Cert.Pre_pi_2301_Kernel.Facts] : Prop :=
  ∀ (m : (ℓ : Loc Cert.Kernel.nD Cert.Kernel.τ Cert.Kernel.sig) → Buf (Elt Bits) ℓ) (g : Dev Cert.Kernel.nD → PrngReg), Pre_Kernel_pi_2301_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2310_Kernel [hKernel : Cert.Kernel.Facts] [hPre_pi_2310_Kernel : Cert.Pre_pi_2310_Kernel.Facts] : Prop :=
  ∀ (m : (ℓ : Loc Cert.Kernel.nD Cert.Kernel.τ Cert.Kernel.sig) → Buf (Elt Bits) ℓ) (g : Dev Cert.Kernel.nD → PrngReg), Pre_Kernel_pi_2310_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3012_Kernel [hKernel : Cert.Kernel.Facts] [hPre_pi_3012_Kernel : Cert.Pre_pi_3012_Kernel.Facts] : Prop :=
  ∀ (m : (ℓ : Loc Cert.Kernel.nD Cert.Kernel.τ Cert.Kernel.sig) → Buf (Elt Bits) ℓ) (g : Dev Cert.Kernel.nD → PrngReg), Pre_Kernel_pi_3012_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3021_Kernel [hKernel : Cert.Kernel.Facts] [hPre_pi_3021_Kernel : Cert.Pre_pi_3021_Kernel.Facts] : Prop :=
  ∀ (m : (ℓ : Loc Cert.Kernel.nD Cert.Kernel.τ Cert.Kernel.sig) → Buf (Elt Bits) ℓ) (g : Dev Cert.Kernel.nD → PrngReg), Pre_Kernel_pi_3021_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3102_Kernel [hKernel : Cert.Kernel.Facts] [hPre_pi_3102_Kernel : Cert.Pre_pi_3102_Kernel.Facts] : Prop :=
  ∀ (m : (ℓ : Loc Cert.Kernel.nD Cert.Kernel.τ Cert.Kernel.sig) → Buf (Elt Bits) ℓ) (g : Dev Cert.Kernel.nD → PrngReg), Pre_Kernel_pi_3102_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3120_Kernel [hKernel : Cert.Kernel.Facts] [hPre_pi_3120_Kernel : Cert.Pre_pi_3120_Kernel.Facts] : Prop :=
  ∀ (m : (ℓ : Loc Cert.Kernel.nD Cert.Kernel.τ Cert.Kernel.sig) → Buf (Elt Bits) ℓ) (g : Dev Cert.Kernel.nD → PrngReg), Pre_Kernel_pi_3120_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3201_Kernel [hKernel : Cert.Kernel.Facts] [hPre_pi_3201_Kernel : Cert.Pre_pi_3201_Kernel.Facts] : Prop :=
  ∀ (m : (ℓ : Loc Cert.Kernel.nD Cert.Kernel.τ Cert.Kernel.sig) → Buf (Elt Bits) ℓ) (g : Dev Cert.Kernel.nD → PrngReg), Pre_Kernel_pi_3201_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3210_Kernel [hKernel : Cert.Kernel.Facts] [hPre_pi_3210_Kernel : Cert.Pre_pi_3210_Kernel.Facts] : Prop :=
  ∀ (m : (ℓ : Loc Cert.Kernel.nD Cert.Kernel.τ Cert.Kernel.sig) → Buf (Elt Bits) ℓ) (g : Dev Cert.Kernel.nD → PrngReg), Pre_Kernel_pi_3210_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pi_0123_Kernel : Cert.Pre_pi_0123_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_0132_Kernel [hKernelIdeal : Cert.KernelIdeal.Facts] [hPre_pi_0132_Kernel : Cert.Pre_pi_0132_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_0132_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_0213_Kernel [hKernelIdeal : Cert.KernelIdeal.Facts] [hPre_pi_0213_Kernel : Cert.Pre_pi_0213_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_0213_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_0231_Kernel [hKernelIdeal : Cert.KernelIdeal.Facts] [hPre_pi_0231_Kernel : Cert.Pre_pi_0231_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_0231_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_0312_Kernel [hKernelIdeal : Cert.KernelIdeal.Facts] [hPre_pi_0312_Kernel : Cert.Pre_pi_0312_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_0312_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_0321_Kernel [hKernelIdeal : Cert.KernelIdeal.Facts] [hPre_pi_0321_Kernel : Cert.Pre_pi_0321_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_0321_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1023_Kernel [hKernelIdeal : Cert.KernelIdeal.Facts] [hPre_pi_1023_Kernel : Cert.Pre_pi_1023_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1023_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1032_Kernel [hKernelIdeal : Cert.KernelIdeal.Facts] [hPre_pi_1032_Kernel : Cert.Pre_pi_1032_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1032_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1203_Kernel [hKernelIdeal : Cert.KernelIdeal.Facts] [hPre_pi_1203_Kernel : Cert.Pre_pi_1203_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1203_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1230_Kernel [hKernelIdeal : Cert.KernelIdeal.Facts] [hPre_pi_1230_Kernel : Cert.Pre_pi_1230_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1230_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1302_Kernel [hKernelIdeal : Cert.KernelIdeal.Facts] [hPre_pi_1302_Kernel : Cert.Pre_pi_1302_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1302_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1320_Kernel [hKernelIdeal : Cert.KernelIdeal.Facts] [hPre_pi_1320_Kernel : Cert.Pre_pi_1320_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1320_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2013_Kernel [hKernelIdeal : Cert.KernelIdeal.Facts] [hPre_pi_2013_Kernel : Cert.Pre_pi_2013_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2013_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2031_Kernel [hKernelIdeal : Cert.KernelIdeal.Facts] [hPre_pi_2031_Kernel : Cert.Pre_pi_2031_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2031_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2103_Kernel [hKernelIdeal : Cert.KernelIdeal.Facts] [hPre_pi_2103_Kernel : Cert.Pre_pi_2103_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2103_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2130_Kernel [hKernelIdeal : Cert.KernelIdeal.Facts] [hPre_pi_2130_Kernel : Cert.Pre_pi_2130_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2130_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2301_Kernel [hKernelIdeal : Cert.KernelIdeal.Facts] [hPre_pi_2301_Kernel : Cert.Pre_pi_2301_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2301_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2310_Kernel [hKernelIdeal : Cert.KernelIdeal.Facts] [hPre_pi_2310_Kernel : Cert.Pre_pi_2310_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2310_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3012_Kernel [hKernelIdeal : Cert.KernelIdeal.Facts] [hPre_pi_3012_Kernel : Cert.Pre_pi_3012_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3012_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3021_Kernel [hKernelIdeal : Cert.KernelIdeal.Facts] [hPre_pi_3021_Kernel : Cert.Pre_pi_3021_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3021_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3102_Kernel [hKernelIdeal : Cert.KernelIdeal.Facts] [hPre_pi_3102_Kernel : Cert.Pre_pi_3102_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3102_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3120_Kernel [hKernelIdeal : Cert.KernelIdeal.Facts] [hPre_pi_3120_Kernel : Cert.Pre_pi_3120_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3120_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3201_Kernel [hKernelIdeal : Cert.KernelIdeal.Facts] [hPre_pi_3201_Kernel : Cert.Pre_pi_3201_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3201_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3210_Kernel [hKernelIdeal : Cert.KernelIdeal.Facts] [hPre_pi_3210_Kernel : Cert.Pre_pi_3210_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3210_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0123_ReferenceIdeal [hReferenceIdeal : Cert.ReferenceIdeal.Facts] [hPre_pi_0123_ReferenceIdeal : Cert.Pre_pi_0123_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0123_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0132_ReferenceIdeal [hReferenceIdeal : Cert.ReferenceIdeal.Facts] [hPre_pi_0132_ReferenceIdeal : Cert.Pre_pi_0132_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0132_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0213_ReferenceIdeal [hReferenceIdeal : Cert.ReferenceIdeal.Facts] [hPre_pi_0213_ReferenceIdeal : Cert.Pre_pi_0213_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0213_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0231_ReferenceIdeal [hReferenceIdeal : Cert.ReferenceIdeal.Facts] [hPre_pi_0231_ReferenceIdeal : Cert.Pre_pi_0231_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0231_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0312_ReferenceIdeal [hReferenceIdeal : Cert.ReferenceIdeal.Facts] [hPre_pi_0312_ReferenceIdeal : Cert.Pre_pi_0312_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0312_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0321_ReferenceIdeal [hReferenceIdeal : Cert.ReferenceIdeal.Facts] [hPre_pi_0321_ReferenceIdeal : Cert.Pre_pi_0321_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0321_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1023_ReferenceIdeal [hReferenceIdeal : Cert.ReferenceIdeal.Facts] [hPre_pi_1023_ReferenceIdeal : Cert.Pre_pi_1023_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1023_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1032_ReferenceIdeal [hReferenceIdeal : Cert.ReferenceIdeal.Facts] [hPre_pi_1032_ReferenceIdeal : Cert.Pre_pi_1032_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1032_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1203_ReferenceIdeal [hReferenceIdeal : Cert.ReferenceIdeal.Facts] [hPre_pi_1203_ReferenceIdeal : Cert.Pre_pi_1203_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1203_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1230_ReferenceIdeal [hReferenceIdeal : Cert.ReferenceIdeal.Facts] [hPre_pi_1230_ReferenceIdeal : Cert.Pre_pi_1230_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1230_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1302_ReferenceIdeal [hReferenceIdeal : Cert.ReferenceIdeal.Facts] [hPre_pi_1302_ReferenceIdeal : Cert.Pre_pi_1302_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1302_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1320_ReferenceIdeal [hReferenceIdeal : Cert.ReferenceIdeal.Facts] [hPre_pi_1320_ReferenceIdeal : Cert.Pre_pi_1320_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1320_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2013_ReferenceIdeal [hReferenceIdeal : Cert.ReferenceIdeal.Facts] [hPre_pi_2013_ReferenceIdeal : Cert.Pre_pi_2013_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2013_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2031_ReferenceIdeal [hReferenceIdeal : Cert.ReferenceIdeal.Facts] [hPre_pi_2031_ReferenceIdeal : Cert.Pre_pi_2031_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2031_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2103_ReferenceIdeal [hReferenceIdeal : Cert.ReferenceIdeal.Facts] [hPre_pi_2103_ReferenceIdeal : Cert.Pre_pi_2103_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2103_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2130_ReferenceIdeal [hReferenceIdeal : Cert.ReferenceIdeal.Facts] [hPre_pi_2130_ReferenceIdeal : Cert.Pre_pi_2130_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2130_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2301_ReferenceIdeal [hReferenceIdeal : Cert.ReferenceIdeal.Facts] [hPre_pi_2301_ReferenceIdeal : Cert.Pre_pi_2301_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2301_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2310_ReferenceIdeal [hReferenceIdeal : Cert.ReferenceIdeal.Facts] [hPre_pi_2310_ReferenceIdeal : Cert.Pre_pi_2310_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2310_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3012_ReferenceIdeal [hReferenceIdeal : Cert.ReferenceIdeal.Facts] [hPre_pi_3012_ReferenceIdeal : Cert.Pre_pi_3012_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3012_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3021_ReferenceIdeal [hReferenceIdeal : Cert.ReferenceIdeal.Facts] [hPre_pi_3021_ReferenceIdeal : Cert.Pre_pi_3021_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3021_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3102_ReferenceIdeal [hReferenceIdeal : Cert.ReferenceIdeal.Facts] [hPre_pi_3102_ReferenceIdeal : Cert.Pre_pi_3102_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3102_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3120_ReferenceIdeal [hReferenceIdeal : Cert.ReferenceIdeal.Facts] [hPre_pi_3120_ReferenceIdeal : Cert.Pre_pi_3120_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3120_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3201_ReferenceIdeal [hReferenceIdeal : Cert.ReferenceIdeal.Facts] [hPre_pi_3201_ReferenceIdeal : Cert.Pre_pi_3201_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3201_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3210_ReferenceIdeal [hReferenceIdeal : Cert.ReferenceIdeal.Facts] [hPre_pi_3210_ReferenceIdeal : Cert.Pre_pi_3210_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3210_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pi_0123_Kernel : Cert.Pre_pi_0123_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_0132_Kernel [hKernelIdeal : Cert.KernelIdeal.Facts] [hReferenceIdeal : Cert.ReferenceIdeal.Facts] [hPre_pi_0132_Kernel : Cert.Pre_pi_0132_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_0132_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_0213_Kernel [hKernelIdeal : Cert.KernelIdeal.Facts] [hReferenceIdeal : Cert.ReferenceIdeal.Facts] [hPre_pi_0213_Kernel : Cert.Pre_pi_0213_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_0213_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_0231_Kernel [hKernelIdeal : Cert.KernelIdeal.Facts] [hReferenceIdeal : Cert.ReferenceIdeal.Facts] [hPre_pi_0231_Kernel : Cert.Pre_pi_0231_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_0231_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_0312_Kernel [hKernelIdeal : Cert.KernelIdeal.Facts] [hReferenceIdeal : Cert.ReferenceIdeal.Facts] [hPre_pi_0312_Kernel : Cert.Pre_pi_0312_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_0312_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_0321_Kernel [hKernelIdeal : Cert.KernelIdeal.Facts] [hReferenceIdeal : Cert.ReferenceIdeal.Facts] [hPre_pi_0321_Kernel : Cert.Pre_pi_0321_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_0321_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1023_Kernel [hKernelIdeal : Cert.KernelIdeal.Facts] [hReferenceIdeal : Cert.ReferenceIdeal.Facts] [hPre_pi_1023_Kernel : Cert.Pre_pi_1023_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1023_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1032_Kernel [hKernelIdeal : Cert.KernelIdeal.Facts] [hReferenceIdeal : Cert.ReferenceIdeal.Facts] [hPre_pi_1032_Kernel : Cert.Pre_pi_1032_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1032_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1203_Kernel [hKernelIdeal : Cert.KernelIdeal.Facts] [hReferenceIdeal : Cert.ReferenceIdeal.Facts] [hPre_pi_1203_Kernel : Cert.Pre_pi_1203_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1203_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1230_Kernel [hKernelIdeal : Cert.KernelIdeal.Facts] [hReferenceIdeal : Cert.ReferenceIdeal.Facts] [hPre_pi_1230_Kernel : Cert.Pre_pi_1230_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1230_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1302_Kernel [hKernelIdeal : Cert.KernelIdeal.Facts] [hReferenceIdeal : Cert.ReferenceIdeal.Facts] [hPre_pi_1302_Kernel : Cert.Pre_pi_1302_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1302_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1320_Kernel [hKernelIdeal : Cert.KernelIdeal.Facts] [hReferenceIdeal : Cert.ReferenceIdeal.Facts] [hPre_pi_1320_Kernel : Cert.Pre_pi_1320_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1320_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2013_Kernel [hKernelIdeal : Cert.KernelIdeal.Facts] [hReferenceIdeal : Cert.ReferenceIdeal.Facts] [hPre_pi_2013_Kernel : Cert.Pre_pi_2013_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2013_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2031_Kernel [hKernelIdeal : Cert.KernelIdeal.Facts] [hReferenceIdeal : Cert.ReferenceIdeal.Facts] [hPre_pi_2031_Kernel : Cert.Pre_pi_2031_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2031_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2103_Kernel [hKernelIdeal : Cert.KernelIdeal.Facts] [hReferenceIdeal : Cert.ReferenceIdeal.Facts] [hPre_pi_2103_Kernel : Cert.Pre_pi_2103_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2103_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2130_Kernel [hKernelIdeal : Cert.KernelIdeal.Facts] [hReferenceIdeal : Cert.ReferenceIdeal.Facts] [hPre_pi_2130_Kernel : Cert.Pre_pi_2130_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2130_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2301_Kernel [hKernelIdeal : Cert.KernelIdeal.Facts] [hReferenceIdeal : Cert.ReferenceIdeal.Facts] [hPre_pi_2301_Kernel : Cert.Pre_pi_2301_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2301_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2310_Kernel [hKernelIdeal : Cert.KernelIdeal.Facts] [hReferenceIdeal : Cert.ReferenceIdeal.Facts] [hPre_pi_2310_Kernel : Cert.Pre_pi_2310_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2310_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3012_Kernel [hKernelIdeal : Cert.KernelIdeal.Facts] [hReferenceIdeal : Cert.ReferenceIdeal.Facts] [hPre_pi_3012_Kernel : Cert.Pre_pi_3012_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3012_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3021_Kernel [hKernelIdeal : Cert.KernelIdeal.Facts] [hReferenceIdeal : Cert.ReferenceIdeal.Facts] [hPre_pi_3021_Kernel : Cert.Pre_pi_3021_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3021_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3102_Kernel [hKernelIdeal : Cert.KernelIdeal.Facts] [hReferenceIdeal : Cert.ReferenceIdeal.Facts] [hPre_pi_3102_Kernel : Cert.Pre_pi_3102_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3102_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3120_Kernel [hKernelIdeal : Cert.KernelIdeal.Facts] [hReferenceIdeal : Cert.ReferenceIdeal.Facts] [hPre_pi_3120_Kernel : Cert.Pre_pi_3120_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3120_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3201_Kernel [hKernelIdeal : Cert.KernelIdeal.Facts] [hReferenceIdeal : Cert.ReferenceIdeal.Facts] [hPre_pi_3201_Kernel : Cert.Pre_pi_3201_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3201_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3210_Kernel [hKernelIdeal : Cert.KernelIdeal.Facts] [hReferenceIdeal : Cert.ReferenceIdeal.Facts] [hPre_pi_3210_Kernel : Cert.Pre_pi_3210_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3210_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pi_0123_Kernel : Cert.Pre_pi_0123_Kernel.Facts) (hPre_pi_0132_Kernel : Cert.Pre_pi_0132_Kernel.Facts) (hPre_pi_0213_Kernel : Cert.Pre_pi_0213_Kernel.Facts) (hPre_pi_0231_Kernel : Cert.Pre_pi_0231_Kernel.Facts) (hPre_pi_0312_Kernel : Cert.Pre_pi_0312_Kernel.Facts) (hPre_pi_0321_Kernel : Cert.Pre_pi_0321_Kernel.Facts) (hPre_pi_1023_Kernel : Cert.Pre_pi_1023_Kernel.Facts) (hPre_pi_1032_Kernel : Cert.Pre_pi_1032_Kernel.Facts) (hPre_pi_1203_Kernel : Cert.Pre_pi_1203_Kernel.Facts) (hPre_pi_1230_Kernel : Cert.Pre_pi_1230_Kernel.Facts) (hPre_pi_1302_Kernel : Cert.Pre_pi_1302_Kernel.Facts) (hPre_pi_1320_Kernel : Cert.Pre_pi_1320_Kernel.Facts) (hPre_pi_2013_Kernel : Cert.Pre_pi_2013_Kernel.Facts) (hPre_pi_2031_Kernel : Cert.Pre_pi_2031_Kernel.Facts) (hPre_pi_2103_Kernel : Cert.Pre_pi_2103_Kernel.Facts) (hPre_pi_2130_Kernel : Cert.Pre_pi_2130_Kernel.Facts) (hPre_pi_2301_Kernel : Cert.Pre_pi_2301_Kernel.Facts) (hPre_pi_2310_Kernel : Cert.Pre_pi_2310_Kernel.Facts) (hPre_pi_3012_Kernel : Cert.Pre_pi_3012_Kernel.Facts) (hPre_pi_3021_Kernel : Cert.Pre_pi_3021_Kernel.Facts) (hPre_pi_3102_Kernel : Cert.Pre_pi_3102_Kernel.Facts) (hPre_pi_3120_Kernel : Cert.Pre_pi_3120_Kernel.Facts) (hPre_pi_3201_Kernel : Cert.Pre_pi_3201_Kernel.Facts) (hPre_pi_3210_Kernel : Cert.Pre_pi_3210_Kernel.Facts) (hPre_pi_0123_ReferenceIdeal : Cert.Pre_pi_0123_ReferenceIdeal.Facts) (hPre_pi_0132_ReferenceIdeal : Cert.Pre_pi_0132_ReferenceIdeal.Facts) (hPre_pi_0213_ReferenceIdeal : Cert.Pre_pi_0213_ReferenceIdeal.Facts) (hPre_pi_0231_ReferenceIdeal : Cert.Pre_pi_0231_ReferenceIdeal.Facts) (hPre_pi_0312_ReferenceIdeal : Cert.Pre_pi_0312_ReferenceIdeal.Facts) (hPre_pi_0321_ReferenceIdeal : Cert.Pre_pi_0321_ReferenceIdeal.Facts) (hPre_pi_1023_ReferenceIdeal : Cert.Pre_pi_1023_ReferenceIdeal.Facts) (hPre_pi_1032_ReferenceIdeal : Cert.Pre_pi_1032_ReferenceIdeal.Facts) (hPre_pi_1203_ReferenceIdeal : Cert.Pre_pi_1203_ReferenceIdeal.Facts) (hPre_pi_1230_ReferenceIdeal : Cert.Pre_pi_1230_ReferenceIdeal.Facts) (hPre_pi_1302_ReferenceIdeal : Cert.Pre_pi_1302_ReferenceIdeal.Facts) (hPre_pi_1320_ReferenceIdeal : Cert.Pre_pi_1320_ReferenceIdeal.Facts) (hPre_pi_2013_ReferenceIdeal : Cert.Pre_pi_2013_ReferenceIdeal.Facts) (hPre_pi_2031_ReferenceIdeal : Cert.Pre_pi_2031_ReferenceIdeal.Facts) (hPre_pi_2103_ReferenceIdeal : Cert.Pre_pi_2103_ReferenceIdeal.Facts) (hPre_pi_2130_ReferenceIdeal : Cert.Pre_pi_2130_ReferenceIdeal.Facts) (hPre_pi_2301_ReferenceIdeal : Cert.Pre_pi_2301_ReferenceIdeal.Facts) (hPre_pi_2310_ReferenceIdeal : Cert.Pre_pi_2310_ReferenceIdeal.Facts) (hPre_pi_3012_ReferenceIdeal : Cert.Pre_pi_3012_ReferenceIdeal.Facts) (hPre_pi_3021_ReferenceIdeal : Cert.Pre_pi_3021_ReferenceIdeal.Facts) (hPre_pi_3102_ReferenceIdeal : Cert.Pre_pi_3102_ReferenceIdeal.Facts) (hPre_pi_3120_ReferenceIdeal : Cert.Pre_pi_3120_ReferenceIdeal.Facts) (hPre_pi_3201_ReferenceIdeal : Cert.Pre_pi_3201_ReferenceIdeal.Facts) (hPre_pi_3210_ReferenceIdeal : Cert.Pre_pi_3210_ReferenceIdeal.Facts),
    quiescent_Kernel (hKernel := hKernel) (hPre_pi_0123_Kernel := hPre_pi_0123_Kernel)
    ∧ quiescent_Kernel_pre_pi_0132_Kernel (hKernel := hKernel) (hPre_pi_0132_Kernel := hPre_pi_0132_Kernel)
    ∧ quiescent_Kernel_pre_pi_0213_Kernel (hKernel := hKernel) (hPre_pi_0213_Kernel := hPre_pi_0213_Kernel)
    ∧ quiescent_Kernel_pre_pi_0231_Kernel (hKernel := hKernel) (hPre_pi_0231_Kernel := hPre_pi_0231_Kernel)
    ∧ quiescent_Kernel_pre_pi_0312_Kernel (hKernel := hKernel) (hPre_pi_0312_Kernel := hPre_pi_0312_Kernel)
    ∧ quiescent_Kernel_pre_pi_0321_Kernel (hKernel := hKernel) (hPre_pi_0321_Kernel := hPre_pi_0321_Kernel)
    ∧ quiescent_Kernel_pre_pi_1023_Kernel (hKernel := hKernel) (hPre_pi_1023_Kernel := hPre_pi_1023_Kernel)
    ∧ quiescent_Kernel_pre_pi_1032_Kernel (hKernel := hKernel) (hPre_pi_1032_Kernel := hPre_pi_1032_Kernel)
    ∧ quiescent_Kernel_pre_pi_1203_Kernel (hKernel := hKernel) (hPre_pi_1203_Kernel := hPre_pi_1203_Kernel)
    ∧ quiescent_Kernel_pre_pi_1230_Kernel (hKernel := hKernel) (hPre_pi_1230_Kernel := hPre_pi_1230_Kernel)
    ∧ quiescent_Kernel_pre_pi_1302_Kernel (hKernel := hKernel) (hPre_pi_1302_Kernel := hPre_pi_1302_Kernel)
    ∧ quiescent_Kernel_pre_pi_1320_Kernel (hKernel := hKernel) (hPre_pi_1320_Kernel := hPre_pi_1320_Kernel)
    ∧ quiescent_Kernel_pre_pi_2013_Kernel (hKernel := hKernel) (hPre_pi_2013_Kernel := hPre_pi_2013_Kernel)
    ∧ quiescent_Kernel_pre_pi_2031_Kernel (hKernel := hKernel) (hPre_pi_2031_Kernel := hPre_pi_2031_Kernel)
    ∧ quiescent_Kernel_pre_pi_2103_Kernel (hKernel := hKernel) (hPre_pi_2103_Kernel := hPre_pi_2103_Kernel)
    ∧ quiescent_Kernel_pre_pi_2130_Kernel (hKernel := hKernel) (hPre_pi_2130_Kernel := hPre_pi_2130_Kernel)
    ∧ quiescent_Kernel_pre_pi_2301_Kernel (hKernel := hKernel) (hPre_pi_2301_Kernel := hPre_pi_2301_Kernel)
    ∧ quiescent_Kernel_pre_pi_2310_Kernel (hKernel := hKernel) (hPre_pi_2310_Kernel := hPre_pi_2310_Kernel)
    ∧ quiescent_Kernel_pre_pi_3012_Kernel (hKernel := hKernel) (hPre_pi_3012_Kernel := hPre_pi_3012_Kernel)
    ∧ quiescent_Kernel_pre_pi_3021_Kernel (hKernel := hKernel) (hPre_pi_3021_Kernel := hPre_pi_3021_Kernel)
    ∧ quiescent_Kernel_pre_pi_3102_Kernel (hKernel := hKernel) (hPre_pi_3102_Kernel := hPre_pi_3102_Kernel)
    ∧ quiescent_Kernel_pre_pi_3120_Kernel (hKernel := hKernel) (hPre_pi_3120_Kernel := hPre_pi_3120_Kernel)
    ∧ quiescent_Kernel_pre_pi_3201_Kernel (hKernel := hKernel) (hPre_pi_3201_Kernel := hPre_pi_3201_Kernel)
    ∧ quiescent_Kernel_pre_pi_3210_Kernel (hKernel := hKernel) (hPre_pi_3210_Kernel := hPre_pi_3210_Kernel)
    ∧ quiescent_KernelIdeal (hKernelIdeal := hKernelIdeal) (hPre_pi_0123_Kernel := hPre_pi_0123_Kernel)
    ∧ quiescent_KernelIdeal_pre_pi_0132_Kernel (hKernelIdeal := hKernelIdeal) (hPre_pi_0132_Kernel := hPre_pi_0132_Kernel)
    ∧ quiescent_KernelIdeal_pre_pi_0213_Kernel (hKernelIdeal := hKernelIdeal) (hPre_pi_0213_Kernel := hPre_pi_0213_Kernel)
    ∧ quiescent_KernelIdeal_pre_pi_0231_Kernel (hKernelIdeal := hKernelIdeal) (hPre_pi_0231_Kernel := hPre_pi_0231_Kernel)
    ∧ quiescent_KernelIdeal_pre_pi_0312_Kernel (hKernelIdeal := hKernelIdeal) (hPre_pi_0312_Kernel := hPre_pi_0312_Kernel)
    ∧ quiescent_KernelIdeal_pre_pi_0321_Kernel (hKernelIdeal := hKernelIdeal) (hPre_pi_0321_Kernel := hPre_pi_0321_Kernel)
    ∧ quiescent_KernelIdeal_pre_pi_1023_Kernel (hKernelIdeal := hKernelIdeal) (hPre_pi_1023_Kernel := hPre_pi_1023_Kernel)
    ∧ quiescent_KernelIdeal_pre_pi_1032_Kernel (hKernelIdeal := hKernelIdeal) (hPre_pi_1032_Kernel := hPre_pi_1032_Kernel)
    ∧ quiescent_KernelIdeal_pre_pi_1203_Kernel (hKernelIdeal := hKernelIdeal) (hPre_pi_1203_Kernel := hPre_pi_1203_Kernel)
    ∧ quiescent_KernelIdeal_pre_pi_1230_Kernel (hKernelIdeal := hKernelIdeal) (hPre_pi_1230_Kernel := hPre_pi_1230_Kernel)
    ∧ quiescent_KernelIdeal_pre_pi_1302_Kernel (hKernelIdeal := hKernelIdeal) (hPre_pi_1302_Kernel := hPre_pi_1302_Kernel)
    ∧ quiescent_KernelIdeal_pre_pi_1320_Kernel (hKernelIdeal := hKernelIdeal) (hPre_pi_1320_Kernel := hPre_pi_1320_Kernel)
    ∧ quiescent_KernelIdeal_pre_pi_2013_Kernel (hKernelIdeal := hKernelIdeal) (hPre_pi_2013_Kernel := hPre_pi_2013_Kernel)
    ∧ quiescent_KernelIdeal_pre_pi_2031_Kernel (hKernelIdeal := hKernelIdeal) (hPre_pi_2031_Kernel := hPre_pi_2031_Kernel)
    ∧ quiescent_KernelIdeal_pre_pi_2103_Kernel (hKernelIdeal := hKernelIdeal) (hPre_pi_2103_Kernel := hPre_pi_2103_Kernel)
    ∧ quiescent_KernelIdeal_pre_pi_2130_Kernel (hKernelIdeal := hKernelIdeal) (hPre_pi_2130_Kernel := hPre_pi_2130_Kernel)
    ∧ quiescent_KernelIdeal_pre_pi_2301_Kernel (hKernelIdeal := hKernelIdeal) (hPre_pi_2301_Kernel := hPre_pi_2301_Kernel)
    ∧ quiescent_KernelIdeal_pre_pi_2310_Kernel (hKernelIdeal := hKernelIdeal) (hPre_pi_2310_Kernel := hPre_pi_2310_Kernel)
    ∧ quiescent_KernelIdeal_pre_pi_3012_Kernel (hKernelIdeal := hKernelIdeal) (hPre_pi_3012_Kernel := hPre_pi_3012_Kernel)
    ∧ quiescent_KernelIdeal_pre_pi_3021_Kernel (hKernelIdeal := hKernelIdeal) (hPre_pi_3021_Kernel := hPre_pi_3021_Kernel)
    ∧ quiescent_KernelIdeal_pre_pi_3102_Kernel (hKernelIdeal := hKernelIdeal) (hPre_pi_3102_Kernel := hPre_pi_3102_Kernel)
    ∧ quiescent_KernelIdeal_pre_pi_3120_Kernel (hKernelIdeal := hKernelIdeal) (hPre_pi_3120_Kernel := hPre_pi_3120_Kernel)
    ∧ quiescent_KernelIdeal_pre_pi_3201_Kernel (hKernelIdeal := hKernelIdeal) (hPre_pi_3201_Kernel := hPre_pi_3201_Kernel)
    ∧ quiescent_KernelIdeal_pre_pi_3210_Kernel (hKernelIdeal := hKernelIdeal) (hPre_pi_3210_Kernel := hPre_pi_3210_Kernel)
    ∧ quiescent_ReferenceIdeal (hReferenceIdeal := hReferenceIdeal)
    ∧ quiescent_ReferenceIdeal_pre_pi_0123_ReferenceIdeal (hReferenceIdeal := hReferenceIdeal) (hPre_pi_0123_ReferenceIdeal := hPre_pi_0123_ReferenceIdeal)
    ∧ quiescent_ReferenceIdeal_pre_pi_0132_ReferenceIdeal (hReferenceIdeal := hReferenceIdeal) (hPre_pi_0132_ReferenceIdeal := hPre_pi_0132_ReferenceIdeal)
    ∧ quiescent_ReferenceIdeal_pre_pi_0213_ReferenceIdeal (hReferenceIdeal := hReferenceIdeal) (hPre_pi_0213_ReferenceIdeal := hPre_pi_0213_ReferenceIdeal)
    ∧ quiescent_ReferenceIdeal_pre_pi_0231_ReferenceIdeal (hReferenceIdeal := hReferenceIdeal) (hPre_pi_0231_ReferenceIdeal := hPre_pi_0231_ReferenceIdeal)
    ∧ quiescent_ReferenceIdeal_pre_pi_0312_ReferenceIdeal (hReferenceIdeal := hReferenceIdeal) (hPre_pi_0312_ReferenceIdeal := hPre_pi_0312_ReferenceIdeal)
    ∧ quiescent_ReferenceIdeal_pre_pi_0321_ReferenceIdeal (hReferenceIdeal := hReferenceIdeal) (hPre_pi_0321_ReferenceIdeal := hPre_pi_0321_ReferenceIdeal)
    ∧ quiescent_ReferenceIdeal_pre_pi_1023_ReferenceIdeal (hReferenceIdeal := hReferenceIdeal) (hPre_pi_1023_ReferenceIdeal := hPre_pi_1023_ReferenceIdeal)
    ∧ quiescent_ReferenceIdeal_pre_pi_1032_ReferenceIdeal (hReferenceIdeal := hReferenceIdeal) (hPre_pi_1032_ReferenceIdeal := hPre_pi_1032_ReferenceIdeal)
    ∧ quiescent_ReferenceIdeal_pre_pi_1203_ReferenceIdeal (hReferenceIdeal := hReferenceIdeal) (hPre_pi_1203_ReferenceIdeal := hPre_pi_1203_ReferenceIdeal)
    ∧ quiescent_ReferenceIdeal_pre_pi_1230_ReferenceIdeal (hReferenceIdeal := hReferenceIdeal) (hPre_pi_1230_ReferenceIdeal := hPre_pi_1230_ReferenceIdeal)
    ∧ quiescent_ReferenceIdeal_pre_pi_1302_ReferenceIdeal (hReferenceIdeal := hReferenceIdeal) (hPre_pi_1302_ReferenceIdeal := hPre_pi_1302_ReferenceIdeal)
    ∧ quiescent_ReferenceIdeal_pre_pi_1320_ReferenceIdeal (hReferenceIdeal := hReferenceIdeal) (hPre_pi_1320_ReferenceIdeal := hPre_pi_1320_ReferenceIdeal)
    ∧ quiescent_ReferenceIdeal_pre_pi_2013_ReferenceIdeal (hReferenceIdeal := hReferenceIdeal) (hPre_pi_2013_ReferenceIdeal := hPre_pi_2013_ReferenceIdeal)
    ∧ quiescent_ReferenceIdeal_pre_pi_2031_ReferenceIdeal (hReferenceIdeal := hReferenceIdeal) (hPre_pi_2031_ReferenceIdeal := hPre_pi_2031_ReferenceIdeal)
    ∧ quiescent_ReferenceIdeal_pre_pi_2103_ReferenceIdeal (hReferenceIdeal := hReferenceIdeal) (hPre_pi_2103_ReferenceIdeal := hPre_pi_2103_ReferenceIdeal)
    ∧ quiescent_ReferenceIdeal_pre_pi_2130_ReferenceIdeal (hReferenceIdeal := hReferenceIdeal) (hPre_pi_2130_ReferenceIdeal := hPre_pi_2130_ReferenceIdeal)
    ∧ quiescent_ReferenceIdeal_pre_pi_2301_ReferenceIdeal (hReferenceIdeal := hReferenceIdeal) (hPre_pi_2301_ReferenceIdeal := hPre_pi_2301_ReferenceIdeal)
    ∧ quiescent_ReferenceIdeal_pre_pi_2310_ReferenceIdeal (hReferenceIdeal := hReferenceIdeal) (hPre_pi_2310_ReferenceIdeal := hPre_pi_2310_ReferenceIdeal)
    ∧ quiescent_ReferenceIdeal_pre_pi_3012_ReferenceIdeal (hReferenceIdeal := hReferenceIdeal) (hPre_pi_3012_ReferenceIdeal := hPre_pi_3012_ReferenceIdeal)
    ∧ quiescent_ReferenceIdeal_pre_pi_3021_ReferenceIdeal (hReferenceIdeal := hReferenceIdeal) (hPre_pi_3021_ReferenceIdeal := hPre_pi_3021_ReferenceIdeal)
    ∧ quiescent_ReferenceIdeal_pre_pi_3102_ReferenceIdeal (hReferenceIdeal := hReferenceIdeal) (hPre_pi_3102_ReferenceIdeal := hPre_pi_3102_ReferenceIdeal)
    ∧ quiescent_ReferenceIdeal_pre_pi_3120_ReferenceIdeal (hReferenceIdeal := hReferenceIdeal) (hPre_pi_3120_ReferenceIdeal := hPre_pi_3120_ReferenceIdeal)
    ∧ quiescent_ReferenceIdeal_pre_pi_3201_ReferenceIdeal (hReferenceIdeal := hReferenceIdeal) (hPre_pi_3201_ReferenceIdeal := hPre_pi_3201_ReferenceIdeal)
    ∧ quiescent_ReferenceIdeal_pre_pi_3210_ReferenceIdeal (hReferenceIdeal := hReferenceIdeal) (hPre_pi_3210_ReferenceIdeal := hPre_pi_3210_ReferenceIdeal)
    ∧ preserves_Kernel_KernelIdeal
    ∧ algebraic_KernelIdeal_ReferenceIdeal (hKernelIdeal := hKernelIdeal) (hReferenceIdeal := hReferenceIdeal) (hPre_pi_0123_Kernel := hPre_pi_0123_Kernel)
    ∧ algebraic_KernelIdeal_ReferenceIdeal_pre_pi_0132_Kernel (hKernelIdeal := hKernelIdeal) (hReferenceIdeal := hReferenceIdeal) (hPre_pi_0132_Kernel := hPre_pi_0132_Kernel)
    ∧ algebraic_KernelIdeal_ReferenceIdeal_pre_pi_0213_Kernel (hKernelIdeal := hKernelIdeal) (hReferenceIdeal := hReferenceIdeal) (hPre_pi_0213_Kernel := hPre_pi_0213_Kernel)
    ∧ algebraic_KernelIdeal_ReferenceIdeal_pre_pi_0231_Kernel (hKernelIdeal := hKernelIdeal) (hReferenceIdeal := hReferenceIdeal) (hPre_pi_0231_Kernel := hPre_pi_0231_Kernel)
    ∧ algebraic_KernelIdeal_ReferenceIdeal_pre_pi_0312_Kernel (hKernelIdeal := hKernelIdeal) (hReferenceIdeal := hReferenceIdeal) (hPre_pi_0312_Kernel := hPre_pi_0312_Kernel)
    ∧ algebraic_KernelIdeal_ReferenceIdeal_pre_pi_0321_Kernel (hKernelIdeal := hKernelIdeal) (hReferenceIdeal := hReferenceIdeal) (hPre_pi_0321_Kernel := hPre_pi_0321_Kernel)
    ∧ algebraic_KernelIdeal_ReferenceIdeal_pre_pi_1023_Kernel (hKernelIdeal := hKernelIdeal) (hReferenceIdeal := hReferenceIdeal) (hPre_pi_1023_Kernel := hPre_pi_1023_Kernel)
    ∧ algebraic_KernelIdeal_ReferenceIdeal_pre_pi_1032_Kernel (hKernelIdeal := hKernelIdeal) (hReferenceIdeal := hReferenceIdeal) (hPre_pi_1032_Kernel := hPre_pi_1032_Kernel)
    ∧ algebraic_KernelIdeal_ReferenceIdeal_pre_pi_1203_Kernel (hKernelIdeal := hKernelIdeal) (hReferenceIdeal := hReferenceIdeal) (hPre_pi_1203_Kernel := hPre_pi_1203_Kernel)
    ∧ algebraic_KernelIdeal_ReferenceIdeal_pre_pi_1230_Kernel (hKernelIdeal := hKernelIdeal) (hReferenceIdeal := hReferenceIdeal) (hPre_pi_1230_Kernel := hPre_pi_1230_Kernel)
    ∧ algebraic_KernelIdeal_ReferenceIdeal_pre_pi_1302_Kernel (hKernelIdeal := hKernelIdeal) (hReferenceIdeal := hReferenceIdeal) (hPre_pi_1302_Kernel := hPre_pi_1302_Kernel)
    ∧ algebraic_KernelIdeal_ReferenceIdeal_pre_pi_1320_Kernel (hKernelIdeal := hKernelIdeal) (hReferenceIdeal := hReferenceIdeal) (hPre_pi_1320_Kernel := hPre_pi_1320_Kernel)
    ∧ algebraic_KernelIdeal_ReferenceIdeal_pre_pi_2013_Kernel (hKernelIdeal := hKernelIdeal) (hReferenceIdeal := hReferenceIdeal) (hPre_pi_2013_Kernel := hPre_pi_2013_Kernel)
    ∧ algebraic_KernelIdeal_ReferenceIdeal_pre_pi_2031_Kernel (hKernelIdeal := hKernelIdeal) (hReferenceIdeal := hReferenceIdeal) (hPre_pi_2031_Kernel := hPre_pi_2031_Kernel)
    ∧ algebraic_KernelIdeal_ReferenceIdeal_pre_pi_2103_Kernel (hKernelIdeal := hKernelIdeal) (hReferenceIdeal := hReferenceIdeal) (hPre_pi_2103_Kernel := hPre_pi_2103_Kernel)
    ∧ algebraic_KernelIdeal_ReferenceIdeal_pre_pi_2130_Kernel (hKernelIdeal := hKernelIdeal) (hReferenceIdeal := hReferenceIdeal) (hPre_pi_2130_Kernel := hPre_pi_2130_Kernel)
    ∧ algebraic_KernelIdeal_ReferenceIdeal_pre_pi_2301_Kernel (hKernelIdeal := hKernelIdeal) (hReferenceIdeal := hReferenceIdeal) (hPre_pi_2301_Kernel := hPre_pi_2301_Kernel)
    ∧ algebraic_KernelIdeal_ReferenceIdeal_pre_pi_2310_Kernel (hKernelIdeal := hKernelIdeal) (hReferenceIdeal := hReferenceIdeal) (hPre_pi_2310_Kernel := hPre_pi_2310_Kernel)
    ∧ algebraic_KernelIdeal_ReferenceIdeal_pre_pi_3012_Kernel (hKernelIdeal := hKernelIdeal) (hReferenceIdeal := hReferenceIdeal) (hPre_pi_3012_Kernel := hPre_pi_3012_Kernel)
    ∧ algebraic_KernelIdeal_ReferenceIdeal_pre_pi_3021_Kernel (hKernelIdeal := hKernelIdeal) (hReferenceIdeal := hReferenceIdeal) (hPre_pi_3021_Kernel := hPre_pi_3021_Kernel)
    ∧ algebraic_KernelIdeal_ReferenceIdeal_pre_pi_3102_Kernel (hKernelIdeal := hKernelIdeal) (hReferenceIdeal := hReferenceIdeal) (hPre_pi_3102_Kernel := hPre_pi_3102_Kernel)
    ∧ algebraic_KernelIdeal_ReferenceIdeal_pre_pi_3120_Kernel (hKernelIdeal := hKernelIdeal) (hReferenceIdeal := hReferenceIdeal) (hPre_pi_3120_Kernel := hPre_pi_3120_Kernel)
    ∧ algebraic_KernelIdeal_ReferenceIdeal_pre_pi_3201_Kernel (hKernelIdeal := hKernelIdeal) (hReferenceIdeal := hReferenceIdeal) (hPre_pi_3201_Kernel := hPre_pi_3201_Kernel)
    ∧ algebraic_KernelIdeal_ReferenceIdeal_pre_pi_3210_Kernel (hKernelIdeal := hKernelIdeal) (hReferenceIdeal := hReferenceIdeal) (hPre_pi_3210_Kernel := hPre_pi_3210_Kernel)
-- ==== Pre_pi_0123_Kernel.lean ====
abbrev S1x1024x1024 : Shape := ⟨3, ![1, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 2#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 3#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_0123_ReferenceIdeal.lean ====
abbrev S4x1024x1024 : Shape := ⟨3, ![4, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 2#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 3#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_0132_Kernel.lean ====
abbrev S1x1024x1024 : Shape := ⟨3, ![1, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 3#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 2#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_0132_ReferenceIdeal.lean ====
abbrev S4x1024x1024 : Shape := ⟨3, ![4, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 3#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 2#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_0213_Kernel.lean ====
abbrev S1x1024x1024 : Shape := ⟨3, ![1, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 1#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 3#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_0213_ReferenceIdeal.lean ====
abbrev S4x1024x1024 : Shape := ⟨3, ![4, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 1#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 3#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_0231_Kernel.lean ====
abbrev S1x1024x1024 : Shape := ⟨3, ![1, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 3#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 1#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_0231_ReferenceIdeal.lean ====
abbrev S4x1024x1024 : Shape := ⟨3, ![4, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 3#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 1#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_0312_Kernel.lean ====
abbrev S1x1024x1024 : Shape := ⟨3, ![1, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 1#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 2#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_0312_ReferenceIdeal.lean ====
abbrev S4x1024x1024 : Shape := ⟨3, ![4, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 1#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 2#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_0321_Kernel.lean ====
abbrev S1x1024x1024 : Shape := ⟨3, ![1, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 2#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 1#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_0321_ReferenceIdeal.lean ====
abbrev S4x1024x1024 : Shape := ⟨3, ![4, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 2#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 1#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_1023_Kernel.lean ====
abbrev S1x1024x1024 : Shape := ⟨3, ![1, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 2#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 3#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_1023_ReferenceIdeal.lean ====
abbrev S4x1024x1024 : Shape := ⟨3, ![4, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 2#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 3#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_1032_Kernel.lean ====
abbrev S1x1024x1024 : Shape := ⟨3, ![1, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 3#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 2#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_1032_ReferenceIdeal.lean ====
abbrev S4x1024x1024 : Shape := ⟨3, ![4, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 3#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 2#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_1203_Kernel.lean ====
abbrev S1x1024x1024 : Shape := ⟨3, ![1, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 0#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 3#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_1203_ReferenceIdeal.lean ====
abbrev S4x1024x1024 : Shape := ⟨3, ![4, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 0#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 3#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_1230_Kernel.lean ====
abbrev S1x1024x1024 : Shape := ⟨3, ![1, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 3#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 0#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_1230_ReferenceIdeal.lean ====
abbrev S4x1024x1024 : Shape := ⟨3, ![4, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 3#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 0#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_1302_Kernel.lean ====
abbrev S1x1024x1024 : Shape := ⟨3, ![1, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 0#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 2#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_1302_ReferenceIdeal.lean ====
abbrev S4x1024x1024 : Shape := ⟨3, ![4, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 0#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 2#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_1320_Kernel.lean ====
abbrev S1x1024x1024 : Shape := ⟨3, ![1, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 2#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 0#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_1320_ReferenceIdeal.lean ====
abbrev S4x1024x1024 : Shape := ⟨3, ![4, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 2#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 0#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_2013_Kernel.lean ====
abbrev S1x1024x1024 : Shape := ⟨3, ![1, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 1#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 3#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_2013_ReferenceIdeal.lean ====
abbrev S4x1024x1024 : Shape := ⟨3, ![4, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 1#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 3#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_2031_Kernel.lean ====
abbrev S1x1024x1024 : Shape := ⟨3, ![1, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 3#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 1#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_2031_ReferenceIdeal.lean ====
abbrev S4x1024x1024 : Shape := ⟨3, ![4, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 3#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 1#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_2103_Kernel.lean ====
abbrev S1x1024x1024 : Shape := ⟨3, ![1, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 0#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 3#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_2103_ReferenceIdeal.lean ====
abbrev S4x1024x1024 : Shape := ⟨3, ![4, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 0#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 3#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_2130_Kernel.lean ====
abbrev S1x1024x1024 : Shape := ⟨3, ![1, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 3#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 0#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_2130_ReferenceIdeal.lean ====
abbrev S4x1024x1024 : Shape := ⟨3, ![4, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 3#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 0#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_2301_Kernel.lean ====
abbrev S1x1024x1024 : Shape := ⟨3, ![1, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 0#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 1#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_2301_ReferenceIdeal.lean ====
abbrev S4x1024x1024 : Shape := ⟨3, ![4, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 0#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 1#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_2310_Kernel.lean ====
abbrev S1x1024x1024 : Shape := ⟨3, ![1, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 1#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 0#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_2310_ReferenceIdeal.lean ====
abbrev S4x1024x1024 : Shape := ⟨3, ![4, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 1#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 0#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_3012_Kernel.lean ====
abbrev S1x1024x1024 : Shape := ⟨3, ![1, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 1#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 2#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_3012_ReferenceIdeal.lean ====
abbrev S4x1024x1024 : Shape := ⟨3, ![4, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 1#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 2#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_3021_Kernel.lean ====
abbrev S1x1024x1024 : Shape := ⟨3, ![1, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 2#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 1#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_3021_ReferenceIdeal.lean ====
abbrev S4x1024x1024 : Shape := ⟨3, ![4, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 2#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 1#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_3102_Kernel.lean ====
abbrev S1x1024x1024 : Shape := ⟨3, ![1, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 0#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 2#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_3102_ReferenceIdeal.lean ====
abbrev S4x1024x1024 : Shape := ⟨3, ![4, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 0#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 2#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_3120_Kernel.lean ====
abbrev S1x1024x1024 : Shape := ⟨3, ![1, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 2#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 0#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_3120_ReferenceIdeal.lean ====
abbrev S4x1024x1024 : Shape := ⟨3, ![4, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 2#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 0#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_3201_Kernel.lean ====
abbrev S1x1024x1024 : Shape := ⟨3, ![1, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 0#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 1#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_3201_ReferenceIdeal.lean ====
abbrev S4x1024x1024 : Shape := ⟨3, ![4, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 0#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 1#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_3210_Kernel.lean ====
abbrev S1x1024x1024 : Shape := ⟨3, ![1, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 1#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 0#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Pre_pi_3210_ReferenceIdeal.lean ====
abbrev S4x1024x1024 : Shape := ⟨3, ![4, 1024, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x1024x1024 .f32) (main_arg1 : IVec S4 32) : IVec S4 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S1 32 := (extractStridedSlice S1 ![2] · slices_S4_S1_2) main_arg1
  let main_v7 : IVec S_ 32 := shapeCast S_ main_v6 shapeCasts_S1_S_
  let main_c_1 : IVec S_ 32 := constantI S_ 32 1#32
  let main_v8 : IVec S_ 1 := cmpi .eq main_v7 main_c_1
  let main_v9 : IVec S1 32 := (extractStridedSlice S1 ![3] · slices_S4_S1_3) main_arg1
  let main_v10 : IVec S_ 32 := shapeCast S_ main_v9 shapeCasts_S1_S_
  let main_c_2 : IVec S_ 32 := constantI S_ 32 0#32
  let main_v11 : IVec S_ 1 := cmpi .eq main_v10 main_c_2
  let main_v12 : IVec S1 1 := broadcastInDim S1 ![] bcast_S_S1 main_v2
  let main_v13 : IVec S1 1 := broadcastInDim S1 ![] bcast_S_S1 main_v5
  let main_v14 : IVec S1 1 := broadcastInDim S1 ![] bcast_S_S1 main_v8
  let main_v15 : IVec S1 1 := broadcastInDim S1 ![] bcast_S_S1 main_v11
  let main_v16 : IVec S4 1 := concatenate S4 0 [⟨S1, main_v12⟩, ⟨S1, main_v13⟩, ⟨S1, main_v14⟩, ⟨S1, main_v15⟩] concatenates_S1_S1_S1_S1_S4_d0
  main_v16
-- ==== Kernel.lean ====
abbrev S1x1024x1024 : Shape := ⟨3, ![1, 1024, 1024]⟩
abbrev S4 : Shape := ⟨1, ![4]⟩
abbrev S2 : Shape := ⟨1, ![2]⟩
abbrev S1 : Shape := ⟨1, ![1]⟩
abbrev S_ : Shape := ⟨0, ![]⟩
abbrev S1x512x1024 : Shape := ⟨3, ![1, 512, 1024]⟩

abbrev nBuf : Space → Nat
  | .hbm => 3
  | .vmem => 0
  | .smem => 1
  | _ => 0

abbrev bufTy : (tb : Table) → Fin (tcTables nBuf tb) → BufTy
  | .hbm, ⟨0, _⟩ => ⟨S1x1024x1024, .f32⟩
  | .hbm, ⟨1, _⟩ => ⟨S4, .i32⟩
  | .hbm, ⟨2, _⟩ => ⟨S1x1024x1024, .f32⟩
  | .local _ .smem, ⟨0, _⟩ => ⟨S4, .i32⟩
  | _, _ => ⟨S1x1024x1024, .f32⟩

abbrev bufScoped : (cs : CoreSpace) → Fin (nBuf (.core cs)) → Bool
  | .smem, ⟨0, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.smem, 0, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_off1 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : Index := Scalar.indexCast v8
  ![v9.toNat]
def k0_dev1 (d0 : Dev nD) (v11 : BitVec 32) (v14 : BitVec 32) (v17 : BitVec 32) (v20 : BitVec 32) : Nat :=
  let c0_i32_7 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_6 : BitVec 32 := 8#32
  let v24 : BitVec 32 := Scalar.muli v2 c8_i32_6
  let v25 : BitVec 32 := Scalar.addi c0_i32_7 v24
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_8 : BitVec 32 := 4#32
  let v26 : BitVec 32 := Scalar.muli v5 c4_i32_8
  let v27 : BitVec 32 := Scalar.addi v25 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v21 : BitVec 1 := Scalar.cmpi .eq v20 v8
  let c3_i32 : BitVec 32 := 3#32
  let v18 : BitVec 1 := Scalar.cmpi .eq v17 v8
  let c2_i32_4 : BitVec 32 := 2#32
  let v15 : BitVec 1 := Scalar.cmpi .eq v14 v8
  let c1_i32_3 : BitVec 32 := 1#32
  let v12 : BitVec 1 := Scalar.cmpi .eq v11 v8
  let c0_i32 : BitVec 32 := 0#32
  let c0_i32_2 : BitVec 32 := 0#32
  let v13 : BitVec 32 := Scalar.select v12 c0_i32 c0_i32_2
  let v16 : BitVec 32 := Scalar.select v15 c1_i32_3 v13
  let v19 : BitVec 32 := Scalar.select v18 c2_i32_4 v16
  let v22 : BitVec 32 := Scalar.select v21 c3_i32 v19
  let c1_i32_9 : BitVec 32 := 1#32
  let v28 : BitVec 32 := Scalar.muli v22 c1_i32_9
  let v29 : BitVec 32 := Scalar.addi v27 v28
  v29.toNat

def k0_chk1 (d0 : Dev nD) (v11 : BitVec 32) (v14 : BitVec 32) (v17 : BitVec 32) (v20 : BitVec 32) : Prop :=
  ((k0_dev1 d0 v11 v14 v17 v20) < nD)
theorem k0_dev1_lt : ∀ (d0 : Dev nD) (v11 : BitVec 32) (v14 : BitVec 32) (v17 : BitVec 32) (v20 : BitVec 32) (k0_hw1 : k0_chk1 d0 v11 v14 v17 v20), (k0_dev1 d0 v11 v14 v17 v20) < nD := fun d0 v11 v14 v17 v20 k0_hw1 => k0_hw1

def k0_dev2 (d0 : Dev nD) (v10 : BitVec 32) : Nat :=
  let c0_i32_14 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_13 : BitVec 32 := 8#32
  let v30 : BitVec 32 := Scalar.muli v2 c8_i32_13
  let v31 : BitVec 32 := Scalar.addi c0_i32_14 v30
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_15 : BitVec 32 := 4#32
  let v32 : BitVec 32 := Scalar.muli v5 c4_i32_15
  let v33 : BitVec 32 := Scalar.addi v31 v32
  let c1_i32_16 : BitVec 32 := 1#32
  let v34 : BitVec 32 := Scalar.muli v10 c1_i32_16
  let v35 : BitVec 32 := Scalar.addi v33 v34
  v35.toNat

def k0_dev3 (d0 : Dev nD) (v10 : BitVec 32) : Nat :=
  let c0_i32_26 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_25 : BitVec 32 := 8#32
  let v42 : BitVec 32 := Scalar.muli v2 c8_i32_25
  let v43 : BitVec 32 := Scalar.addi c0_i32_26 v42
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_27 : BitVec 32 := 4#32
  let v44 : BitVec 32 := Scalar.muli v5 c4_i32_27
  let v45 : BitVec 32 := Scalar.addi v43 v44
  let c1_i32_28 : BitVec 32 := 1#32
  let v46 : BitVec 32 := Scalar.muli v10 c1_i32_28
  let v47 : BitVec 32 := Scalar.addi v45 v46
  v47.toNat

def k0_chk2 (d0 : Dev nD) (v10 : BitVec 32) : Prop :=
  ((k0_dev2 d0 v10) < nD) ∧
  ((k0_dev3 d0 v10) < nD)
theorem k0_dev2_lt : ∀ (d0 : Dev nD) (v10 : BitVec 32) (k0_hw2 : k0_chk2 d0 v10), (k0_dev2 d0 v10) < nD := fun d0 v10 k0_hw2 => k0_hw2.1
theorem k0_dev3_lt : ∀ (d0 : Dev nD) (v10 : BitVec 32) (k0_hw2 : k0_chk2 d0 v10), (k0_dev3 d0 v10) < nD := fun d0 v10 k0_hw2 => k0_hw2.2

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x1024x1024 : Shape := ⟨3, ![4, 1024, 1024]⟩
abbrev S4 : Shape := ⟨1, ![4]⟩
abbrev S_ : Shape := ⟨0, ![]⟩
abbrev S4x1 : Shape := ⟨2, ![4, 1]⟩

abbrev nBuf : Space → Nat
  | .hbm => 14
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4, .i32⟩
  | .hbm, ⟨2, _⟩ => ⟨S4, .i32⟩
  | .hbm, ⟨3, _⟩ => ⟨S4, .i32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S4x1, .i32⟩
  | .hbm, ⟨13, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Same.lean ====
/-
# The kernel as printed and its idealization are one program

No operation of the kernel was rewritten, so the two programs have the same text and what is proved of one at any float
values holds of the other.
-/
module

public import proofs.«01_k».proof.Defs
public import proofs.«01_k».proof.Proof.Gen.Kernel
public import proofs.«01_k».proof.Proof.Gen.KernelIdeal

@[expose] public section

noncomputable section

namespace Cert.PermuteProof

open Idealize.ShloMosaic

/-- The body tables agree: the one label runs the same body. -/
theorem bodies_same : Kernel.defs₀ (F := Bits) = KernelIdeal.defs₀ (F := Bits) := by
  unfold Kernel.defs₀ KernelIdeal.defs₀
  refine congrArg (Defs.onTc (nD := KernelIdeal.nD) (τ := KernelIdeal.τ) (sig := KernelIdeal.sig) (Λ := KernelIdeal.Λ₀)) (funext fun l => ?_)
  match l with
  | 0 => rfl

/-- So do the programs' tables. -/
theorem defs_same : Kernel.defs (F := Bits) = KernelIdeal.defs (F := Bits) := congrArg (Pipeline.defs KernelIdeal.pcfgs) bodies_same

end Cert.PermuteProof

end
-- ==== Proof.Table.lean ====
/-
# The mesh and the table

The mesh is 2 × 2 × 4 and device `c` sits at `(c / 8, c / 4 % 2, c % 4)`. The kernel reads a table `pi` of four words;
here the table spells a permutation `σ` of the four positions of the last axis. This module says where the table sends a
device (`move`), what the launch memory has to hold for that (`PreOK`), and that the addresses the kernel computes from
the table's words are the devices named by `σ` and by its inverse.
-/
module

public import proofs.«01_k».proof.Proof.Gen.KernelIdeal
public import Idealize.ShloMosaic.Lib.ValueIdxCore

@[expose] public section

noncomputable section

namespace Cert.PermuteProof

open Cert.KernelIdeal Cert.KernelIdeal.Gen
open Idealize.ShloMosaic Idealize.ShloMosaic.TcCoe
open Idealize.ShloMosaic.ValueIdx
open Idealize.SL.Sem

/-! ## Positions on the last axis -/

/-- Device `c`'s position on the last axis of the mesh. -/
def pos (c : Dev nD) : Fin 4 := ⟨c.val % 4, Nat.mod_lt _ (by decide)⟩

/-- The device in `c`'s row of the mesh whose position on the last axis is `j`. -/
def at_ (c : Dev nD) (j : Fin 4) : Dev nD :=
  ⟨4 * (c.val / 4) + j.val, by have h : c.val < 16 := c.isLt; have := j.isLt; show _ < 16; omega⟩

theorem pos_at (c : Dev nD) (j : Fin 4) : pos (at_ c j) = j := by
  have := j.isLt
  exact Fin.ext (by show (4 * (c.val / 4) + j.val) % 4 = j.val; omega)

theorem at_at (c : Dev nD) (i j : Fin 4) : at_ (at_ c i) j = at_ c j := by
  have := i.isLt
  exact Fin.ext (by show 4 * ((4 * (c.val / 4) + i.val) / 4) + j.val = 4 * (c.val / 4) + j.val; omega)

theorem at_pos (c : Dev nD) : at_ c (pos c) = c :=
  Fin.ext (by show 4 * (c.val / 4) + c.val % 4 = c.val; omega)

/-- Moving along the last axis by a permutation of its positions. -/
def move (σ : Equiv.Perm (Fin 4)) (c : Dev nD) : Dev nD := at_ c (σ (pos c))

theorem move_symm_move (σ : Equiv.Perm (Fin 4)) (c : Dev nD) : move σ.symm (move σ c) = c := by
  unfold move; rw [pos_at, at_at, Equiv.symm_apply_apply, at_pos]

theorem move_move_symm (σ : Equiv.Perm (Fin 4)) (c : Dev nD) : move σ (move σ.symm c) = c := by
  unfold move; rw [pos_at, at_at, Equiv.apply_symm_apply, at_pos]

/-- `move` as a bijection of the mesh. -/
def moves (σ : Equiv.Perm (Fin 4)) : Dev nD ≃ Dev nD := ⟨move σ, move σ.symm, move_symm_move σ, move_move_symm σ⟩

/-! ## The table's words -/

/-- A position as the 32-bit word that names it. -/
abbrev word (j : Fin 4) : BitVec 32 := BitVec.ofNat 32 j.val

theorem word_injective {i j : Fin 4} (h : word i = word j) : i = j := by
  revert i j; decide

section Memory

variable {F : FTy → Type} [FloatOps F] (m : (ℓ : Loc nD τ sig) → Buf (Elt F) ℓ)

/-- Device `c`'s table: its second argument. -/
abbrev tblOf (c : Dev nD) : IVec S4 32 := m ((c : Thread nD τ).loc main_arg1)

/-- What the proof asks of the launch memory: every device's table spells `σ`. -/
def PreOK (σ : Equiv.Perm (Fin 4)) : Prop := ∀ (c : Dev nD) (j : Fin 4), tblOf m c (ix1 j) = word (σ j)

end Memory

/-! ## The addresses the kernel computes -/

/-- The receiver's address, from the table's word at the device's own position. -/
theorem dev2_val (c : Dev nD) (j : Fin 4) : k0_dev2 c (word j) = (at_ c j).val := by
  revert c j; decide +kernel

theorem dev3_val (c : Dev nD) (j : Fin 4) : k0_dev3 c (word j) = (at_ c j).val := by
  revert c j; decide +kernel

/-- Both addresses name devices of the mesh: what the kernel assumes of the word it has read. -/
theorem chk2_word (c : Dev nD) (j : Fin 4) : k0_chk2 c (word j) := by
  unfold k0_chk2; rw [dev2_val, dev3_val]; exact ⟨(at_ c j).isLt, (at_ c j).isLt⟩

/-- The last entry of a table of four that equals `z`, as the kernel searches for it (position 0 if there is none). -/
def lastAt (a0 a1 a2 a3 z : Fin 4) : Fin 4 :=
  if a3 = z then 3 else if a2 = z then 2 else if a1 = z then 1 else 0

/-- The sender's address, from the four words of the table. -/
theorem dev1_val (c : Dev nD) (a0 a1 a2 a3 : Fin 4) :
    k0_dev1 c (word a0) (word a1) (word a2) (word a3) = (at_ c (lastAt a0 a1 a2 a3 (pos c))).val := by
  revert c a0 a1 a2 a3; decide +kernel

/-- Searching the table of a permutation finds the inverse. -/
theorem lastAt_perm (σ : Equiv.Perm (Fin 4)) (z : Fin 4) : lastAt (σ 0) (σ 1) (σ 2) (σ 3) z = σ.symm z := by
  rw [Equiv.eq_symm_apply]
  obtain ⟨k, rfl⟩ := σ.surjective z
  unfold lastAt
  simp only [EmbeddingLike.apply_eq_iff_eq]
  congr 1
  revert k; decide

end Cert.PermuteProof

end
-- ==== Proof.Protocol.lean ====
/-
# The exchange as a schedule of duties

Every device touches five semaphores: the barrier semaphore it is signalled on, and for each half of its block a send and
a receive semaphore. Each is used exactly once in the launch, so the schedule has a single round with a single duty per
cell:

* the BARRIER cell of device `c` is paid one unit by the device `c` sends to; with the unit comes that device's whole
  result buffer, which `c` may then write;
* the SEND cell of half `h` of `c` is paid by `c`'s own copy and gives back that half of `c`'s argument;
* the RECEIVE cell of half `h` of `c` is paid by the copy of the device that sends to `c`; with it comes that half of
  `c`'s result buffer, holding the sender's argument.

A device that waits on its barrier still owes the two copies into its receiver. Barrier cells are therefore put below
receive cells: a wait is allowed when everything the waiter owes lies above the cell it waits on.
-/
module

public import proofs.«01_k».proof.Proof.Table
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.PermuteProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The resources: the launch library's copy of the rounds, and the exchange's -/

abbrev UX : Type := URounds (GSem nD τ sig) Unit
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (σ : Equiv.Perm (Fin 4))

/-! ## Buffers and semaphores -/

theorem inb_half (h : Fin 2) : ∀ a, (![0, 512 * h.val, 0] : Fin 3 → ℕ) a + S1x512x1024.size a ≤ S1x1024x1024.size a := by
  revert h; decide

/-- Half `h` of a block: rows 0 to 511 or rows 512 to 1023. -/
abbrev half (h : Fin 2) : Rect S1x1024x1024 := Rect.unit (s := S1x1024x1024) ![0, 512 * h.val, 0] S1x512x1024.size (inb_half h)

/-- Half `h` of the argument and of the result, as the copies name them. -/
abbrev xH (h : Fin 2) : Memref sig .tc .hbm S1x512x1024 .f32 := (Memref.whole main_arg0).slice (half h) (fun _ => rfl)
abbrev oH (h : Fin 2) : Memref sig .tc .hbm S1x512x1024 .f32 := (Memref.whole main_v1).slice (half h) (fun _ => rfl)

/-- What one copy adds to its semaphores. -/
abbrev N : ℕ := (oH 0).view.dmaCredit
theorem N_pos : 0 < N := View.dmaCredit_pos _ (by decide)

/-- The barrier semaphore, and the send and receive semaphores of each half. -/
abbrev barS : Sem sig := (SemArray.scalar (sig.barrier 0 rfl) : Sems sig S_).sem
theorem inb_sem (h : Fin 2) : ∀ a, (![h.val] : Fin 1 → ℕ) a + S1.size a ≤ S2.size a := by revert h; decide
abbrev sendS (h : Fin 2) : DmaSem sig := ((cc0_scratch0.slice (Rect.unit (s := S2) ![h.val] S1.size (inb_sem h))).squeeze S_ squeezes_S1_S_).sem
abbrev recvS (h : Fin 2) : DmaSem sig := ((cc0_scratch1.slice (Rect.unit (s := S2) ![h.val] S1.size (inb_sem h))).squeeze S_ squeezes_S1_S_).sem

/-- A device's four own semaphores, and all five that the exchange uses. -/
abbrev osem : Fin 4 → SemLoc sig := fun | 0 => .dma (sendS 0) | 1 => .dma (sendS 1) | 2 => .dma (recvS 0) | 3 => .dma (recvS 1)
abbrev csem : Fin 5 → SemLoc sig := fun | 0 => .reg barS | 1 => .dma (sendS 0) | 2 => .dma (sendS 1) | 3 => .dma (recvS 0) | 4 => .dma (recvS 1)

theorem csem_injective : Function.Injective csem := by decide

abbrev barCell (c : Dev nD) : GSem nD τ sig := ((c : Thread nD τ), .reg barS)
abbrev sendCell (h : Fin 2) (c : Dev nD) : GSem nD τ sig := ((c : Thread nD τ), .dma (sendS h))
abbrev recvCell (h : Fin 2) (c : Dev nD) : GSem nD τ sig := ((c : Thread nD τ), .dma (recvS h))
abbrev kcell (ck : Dev nD × Fin 5) : GSem nD τ sig := ((ck.1 : Thread nD τ), csem ck.2)

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

theorem recv_ne_bar (h : Fin 2) : (SemLoc.dma (recvS h) : SemLoc sig) ≠ .reg barS := fun e => by cases e
theorem send_ne_bar (h : Fin 2) : (SemLoc.dma (sendS h) : SemLoc sig) ≠ .reg barS := fun e => by cases e
theorem send_ne_recv (h h' : Fin 2) : (SemLoc.dma (sendS h) : SemLoc sig) ≠ .dma (recvS h') := by revert h h'; decide
theorem recv_inj {h h' : Fin 2} (e : (SemLoc.dma (recvS h) : SemLoc sig) = .dma (recvS h')) : h = h' := by revert h h'; decide
theorem send_inj {h h' : Fin 2} (e : (SemLoc.dma (sendS h) : SemLoc sig) = .dma (sendS h')) : h = h' := by revert h h'; decide

/-! ## The two halves of a block -/

theorem xH_set (h : Fin 2) : (xH h).view.set = (half h).set := View.set_slice_whole _ _
theorem oH_set (h : Fin 2) : (oH h).view.set = (half h).set := View.set_slice_whole _ _

theorem halves_disjoint : Disjoint (half 0).set (half 1).set := Rect.unit_disjoint (1 : Fin 3) (Or.inl (by decide))

theorem halves_cover : (Finset.univ : Finset S1x1024x1024.Idx) = (half 0).set ∪ (half 1).set := by
  refine (Finset.eq_univ_of_forall fun i => ?_).symm
  have h0 : (i 0).val < 1 := (i 0).isLt
  have h1 : (i 1).val < 1024 := (i 1).isLt
  have h2 : (i 2).val < 1024 := (i 2).isLt
  rw [Finset.mem_union, Rect.mem_set_unit, Rect.mem_set_unit]
  rcases Nat.lt_or_ge (i 1).val 512 with hlt | hge
  · refine Or.inl fun a => ?_
    fin_cases a
    · exact ⟨Nat.zero_le _, h0⟩
    · exact ⟨Nat.zero_le _, hlt⟩
    · exact ⟨Nat.zero_le _, h2⟩
  · refine Or.inr fun a => ?_
    fin_cases a
    · exact ⟨Nat.zero_le _, h0⟩
    · exact ⟨hge, h1⟩
    · exact ⟨Nat.zero_le _, h2⟩

/-- Device `c`'s argument at launch. -/
abbrev argOf (c : Dev nD) : FVec F S1x1024x1024 .f32 := m ((c : Thread nD τ).loc main_arg0)

/-- Half `h` of device `c`'s argument, and of its result buffer at contents `f`. -/
def xPts (h : Fin 2) (c : Dev nD) : sProp 𝕄 := (xH h).view.loc (c : Thread nD τ) ↦[(xH h).view.set]{fullShare} argOf m c
def oPts (h : Fin 2) (c : Dev nD) (f : FVec F S1x1024x1024 .f32) : sProp 𝕄 :=
  (oH h).view.loc (c : Thread nD τ) ↦[(oH h).view.set]{fullShare} f

/-- The whole argument and the whole result buffer. -/
def xAll (c : Dev nD) : sProp 𝕄 := ((c : Thread nD τ).loc main_arg0) ↦{fullShare} argOf m c
def oAll (c : Dev nD) (f : FVec F S1x1024x1024 .f32) : sProp 𝕄 := ((c : Thread nD τ).loc main_v1) ↦{fullShare} f

/-- A buffer is its two halves. -/
theorem xAll_halves (c : Dev nD) : (xAll m c : sProp 𝕄) ⊣⊢ iprop(xPts m 0 c ∗ xPts m 1 c) := by
  unfold xAll xPts
  rw [xH_set, xH_set]
  have e : (Finset.univ : Finset (Idx ((c : Thread nD τ).loc main_arg0))) = (half 0).set ∪ (half 1).set := halves_cover
  rw [e]; exact pointsTo_union halves_disjoint
theorem oAll_halves (c : Dev nD) (f : FVec F S1x1024x1024 .f32) : (oAll c f : sProp 𝕄) ⊣⊢ iprop(oPts 0 c f ∗ oPts 1 c f) := by
  unfold oAll oPts
  rw [oH_set, oH_set]
  have e : (Finset.univ : Finset (Idx ((c : Thread nD τ).loc main_v1))) = (half 0).set ∪ (half 1).set := halves_cover
  rw [e]; exact pointsTo_union halves_disjoint

instance xPts_storable (h : Fin 2) (c : Dev nD) : BI.Storable (upEmb : UEmb _ 𝕄) (xPts (F := F) m h c) := by unfold xPts; infer_instance
instance oPts_storable (h : Fin 2) (c : Dev nD) (f) : BI.Storable (upEmb : UEmb _ 𝕄) (oPts (F := F) h c f) := by unfold oPts; infer_instance
instance oAll_storable (c : Dev nD) (f) : BI.Storable (upEmb : UEmb _ 𝕄) (oAll (F := F) c f) := by unfold oAll; infer_instance

/-- A half written with what the other device's half holds, holds the other device's elements. -/
theorem half_written (h : Fin 2) (fd fs : FVec F S1x1024x1024 .f32) :
    ∀ i ∈ (oH h).view.set, (oH h).view.write (Elt F) fd ((xH h).view.read (Elt F) fs) Finset.univ i = fs i := fun i hi => by
  rw [show (xH h).view.read (Elt F) fs = (oH h).view.read (Elt F) fs from rfl, View.write_read_eq_piecewise, View.setOn_univ]
  exact Finset.piecewise_eq_of_mem _ _ _ hi

/-! ## The schedule -/

/-- What the payer of a cell on device `c` hands over, by the cell. -/
def pay (c : Dev nD) (sm : SemLoc sig) : sProp 𝕄 :=
  if sm = csem 0 then iprop(∃ f, oAll (move σ c) f)
  else if sm = csem 1 then xPts m 0 c
  else if sm = csem 2 then xPts m 1 c
  else if sm = csem 3 then oPts 0 c (argOf m (move σ.symm c))
  else if sm = csem 4 then oPts 1 c (argOf m (move σ.symm c))
  else iprop(emp)

/-- One duty per cell of the exchange, in round 0. -/
def exch : Rounds.Schedule (GSem nD τ sig) Unit 𝕄 where
  duties g r := if r = 0 ∧ g.1.2 = .tc ∧ ∃ k, g.2 = csem k then {()} else ∅
  unitless _ := False
  amount g _ _ := if g.2 = .reg barS then 1 else N
  payload g _ _ := pay m σ g.1.1 g.2
  amount_pos g _ _ _ := by
    by_cases h : g.2 = .reg barS
    · rw [if_pos h]; exact Nat.one_pos
    · rw [if_neg h]; exact N_pos

instance exch_payload_storable (g : GSem nD τ sig) (r : ℕ) (d : Unit) :
    BI.Storable (upEmb : UEmb _ 𝕄) ((exch (F := F) m σ).payload g r d) := by
  show BI.Storable upEmb (pay m σ g.1.1 g.2)
  unfold pay
  (repeat' split) <;> infer_instance

section Facts
variable (c : Dev nD) (h : Fin 2)

theorem duties_kcell (k : Fin 5) : (exch (F := F) m σ).duties (kcell (c, k)) 0 = {()} := by
  dsimp only [exch]; exact if_pos ⟨rfl, rfl, k, rfl⟩
theorem duties_later (g : GSem nD τ sig) : ∀ r, 1 ≤ r → (exch (F := F) m σ).duties g r = ∅ :=
  fun r hr => by dsimp only [exch]; exact if_neg fun e => by omega

theorem duties_bar : (exch (F := F) m σ).duties (barCell c) 0 = {()} := duties_kcell m σ c 0
theorem duties_send : (exch (F := F) m σ).duties (sendCell h c) 0 = {()} := by
  match h with
  | 0 => exact duties_kcell m σ c 1
  | 1 => exact duties_kcell m σ c 2
theorem duties_recv : (exch (F := F) m σ).duties (recvCell h c) 0 = {()} := by
  match h with
  | 0 => exact duties_kcell m σ c 3
  | 1 => exact duties_kcell m σ c 4

theorem amount_bar (d : Unit) : (exch (F := F) m σ).amount (barCell c) 0 d = 1 := by dsimp only [exch]; exact if_pos rfl
theorem amount_send (d : Unit) : (exch (F := F) m σ).amount (sendCell h c) 0 d = N := by dsimp only [exch]; exact if_neg (send_ne_bar h)
theorem amount_recv (d : Unit) : (exch (F := F) m σ).amount (recvCell h c) 0 d = N := by dsimp only [exch]; exact if_neg (recv_ne_bar h)

theorem expect_bar : (exch (F := F) m σ).expect (barCell c) 0 = 1 := by
  unfold Schedule.expect Schedule.amountOf; rw [duties_bar, Finset.sum_singleton, amount_bar]
theorem expect_send : (exch (F := F) m σ).expect (sendCell h c) 0 = N := by
  unfold Schedule.expect Schedule.amountOf; rw [duties_send, Finset.sum_singleton, amount_send]
theorem expect_recv : (exch (F := F) m σ).expect (recvCell h c) 0 = N := by
  unfold Schedule.expect Schedule.amountOf; rw [duties_recv, Finset.sum_singleton, amount_recv]

theorem pay_bar : (pay m σ c (.reg barS) : sProp 𝕄) = iprop(∃ f, oAll (move σ c) f) := if_pos rfl
theorem pay_send : (pay m σ c (.dma (sendS h)) : sProp 𝕄) = xPts m h c := by
  unfold pay
  match h with
  | 0 => rw [if_neg (by decide), if_pos rfl]
  | 1 => rw [if_neg (by decide), if_neg (by decide), if_pos rfl]
theorem pay_recv : (pay m σ c (.dma (recvS h)) : sProp 𝕄) = oPts h c (argOf m (move σ.symm c)) := by
  unfold pay
  match h with
  | 0 => rw [if_neg (by decide), if_neg (by decide), if_neg (by decide), if_pos rfl]
  | 1 => rw [if_neg (by decide), if_neg (by decide), if_neg (by decide), if_neg (by decide), if_pos rfl]

theorem rest_bar : bigSep ((exch (F := F) m σ).duties (barCell c) 0 \ ∅) (fun d => (exch (F := F) m σ).payload (barCell c) 0 d)
    = iprop(∃ f, oAll (move σ c) f) := by
  rw [Finset.sdiff_empty, duties_bar, bigSep_singleton]; exact pay_bar m σ c
theorem rest_send : bigSep ((exch (F := F) m σ).duties (sendCell h c) 0 \ ∅) (fun d => (exch (F := F) m σ).payload (sendCell h c) 0 d)
    = xPts m h c := by
  rw [Finset.sdiff_empty, duties_send, bigSep_singleton]; exact pay_send m σ c h
theorem rest_recv : bigSep ((exch (F := F) m σ).duties (recvCell h c) 0 \ ∅) (fun d => (exch (F := F) m σ).payload (recvCell h c) 0 d)
    = oPts h c (argOf m (move σ.symm c)) := by
  rw [Finset.sdiff_empty, duties_recv, bigSep_singleton]; exact pay_recv m σ c h

end Facts

/-! ## What a device owes at launch; the levels -/

/-- The two copies a device owes its receiver, the second half's last to be paid. -/
def O₁ (c : Dev nD) : CellTallies nD τ sig Unit := tallyAt (recvCell 1 (move σ c)) () N + tallyAt (recvCell 0 (move σ c)) () N
/-- The copies, and the signal it owes its sender. -/
def O₀ (c : Dev nD) : CellTallies nD τ sig Unit := O₁ σ c + tallyAt (barCell (move σ.symm c)) () 1

def L (g : GSem nD τ sig) : Finset Unit := if g.1.2 = .tc then {()} else ∅
/-- Barrier cells at 1, receive cells at 2, everything else at 0. -/
def lv (g : GSem nD τ sig) (_ : Unit) : ℕ := if g.2 = .reg barS then 1 else if g.2 = csem 3 ∨ g.2 = csem 4 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := if_pos rfl
theorem lv_recv (h : Fin 2) (c : Dev nD) (u : Unit) : lv (recvCell h c) u = 2 := by
  unfold lv
  rw [if_neg (recv_ne_bar h)]
  refine if_pos ?_
  match h with
  | 0 => exact Or.inl rfl
  | 1 => exact Or.inr rfl

theorem O₁_pos {c : Dev nD} {g : GSem nD τ sig} {u : Unit} (hp : 0 < O₁ σ c g u) : ∃ h, g = recvCell h (move σ c) := by
  unfold O₁ at hp
  rw [Pi.add_apply, Finsupp.add_apply, tallyAt_apply, tallyAt_apply] at hp
  by_contra hn
  rw [if_neg (fun e => hn ⟨1, e.1⟩), if_neg (fun e => hn ⟨0, e.1⟩)] at hp
  exact Nat.lt_irrefl 0 hp

theorem O₀_pos {c : Dev nD} {g : GSem nD τ sig} {u : Unit} (hp : 0 < O₀ σ c g u) :
    (∃ h, g = recvCell h (move σ c)) ∨ g = barCell (move σ.symm c) := by
  by_contra hn
  rw [not_or] at hn
  unfold O₀ at hp
  rw [Pi.add_apply, Finsupp.add_apply, tallyAt_apply, if_neg (fun e => hn.2 e.1)] at hp
  exact hn.1 (O₁_pos σ hp)

/-- A cell that is neither a barrier nor a receive cell may be waited on whatever a device owes: its level is 0. -/
theorem mayWait_stage (c : Dev nD) (q : DmaSem sig) (h3 : SemLoc.dma q ≠ csem 3) (h4 : SemLoc.dma q ≠ csem 4)
    (O : CellTallies nD τ sig Unit) (hO : O = O₀ σ c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos σ hg with ⟨h, rfl⟩ | rfl <;> exact Finset.mem_singleton_self _)
      (fun p hp => by
        rw [Finset.mem_singleton.mp hp]; dsimp only [lv]
        rw [if_neg (fun h => by cases h), if_neg (fun h => h.elim h3 h4)])
      (fun g u hg => by
        rcases O₀_pos σ hg with ⟨h, rfl⟩ | rfl
        · rw [lv_recv]; decide
        · rw [lv_bar]; decide)
  · rw [MayWait_zero]; iintro -; iempintro

/-- At its barrier wait a device owes only copies, and receive cells lie above barrier cells. -/
theorem mayWait_bar (c : Dev nD) : (levAts L lv : sProp 𝕄) ⊢ MayWait (c : Thread nD τ) (.reg barS) () (O₁ σ c) :=
  MayOwe.of_cut (L := L) (lev := lv) 1 (fun p hp => by rw [Finset.mem_singleton.mp hp, L_tc]; exact Finset.mem_singleton_self _)
    (fun g u hg => by obtain ⟨h, rfl⟩ := O₁_pos σ hg; exact Finset.mem_singleton_self _)
    (fun p hp => by rw [Finset.mem_singleton.mp hp]; exact le_of_eq (lv_bar c ()))
    (fun g u hg => by obtain ⟨h, rfl⟩ := O₁_pos σ hg; rw [lv_recv]; decide)

end Cert.PermuteProof

end
-- ==== Proof.Body.lean ====
/-
# One device's run of the kernel body

The kernel body is executed on device `c` one operation at a time. It reads its table, signals its sender, waits for its
receiver's signal (and gets the receiver's result buffer with it), starts the two copies, and waits for their departure
and for the arrival of the two copies sent to it. It ends with its own argument back and with its result buffer holding
its sender's argument, all five semaphores at zero.
-/
module

public import proofs.«01_k».proof.Proof.Protocol
public import proofs.«01_k».proof.Proof.Gen.KernelIdeal.Skeleton

@[expose] public section

noncomputable section

namespace Cert.PermuteProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (σ : Equiv.Perm (Fin 4))

abbrev 𝒱₀ : Variants := Variants.none

/-- The state at launch: arbitrary memory, every semaphore at zero, arbitrary generator registers. -/
def s₀ : MemSt nD τ sig (Elt F) := ⟨m, fun _ => 0, ρ⟩

/-! ## The table's words as the body reads them -/

/-- The table as it is staged for the body. -/
def tstg (c : Dev nD) : (cc0_stg0_0 : Ref sig .tc).ty.Contents (Elt F) :=
  (win0_0.blk (0 : Fin 1)).view.read (Elt F) ((s₀ m ρ).mem ((c : Thread nD τ).loc main_arg1))

theorem tstg_apply (c : Dev nD) (j : Fin 4) : tstg m ρ c (ix1 j) = tblOf m c (ix1 j) := by
  refine congrArg (tblOf m c) (funext fun a => ?_)
  match a with
  | ⟨0, _⟩ => exact Fin.ext (show 0 * 4 + 1 * j.val = j.val by omega)

abbrev tM : Memref sig .tc .smem S4 .i32 := Memref.whole cc0_stg0_0

/-- A one-word load at offset `j` reads the table's word `j`. -/
theorem word_read {off : Fin 1 → ℕ} (j : Fin 4) (e : off = ![j.val]) (inb : ∀ a, off a + S1.size a ≤ S4.size a)
    (f : (cc0_stg0_0 : Ref sig .tc).ty.Contents (Elt F)) (x : S1.Idx) :
    (tM.access (Rect.unit (s := S4) off S1.size inb)).read (Elt F) f x = f (ix1 j) := by
  subst e
  refine congrArg f (funext fun a => ?_)
  match a with
  | ⟨0, _⟩ =>
    have hx : (x 0).val < 1 := (x 0).isLt
    exact Fin.ext (show j.val + 1 * (x 0).val = j.val by omega)

/-- The word a one-word load at `off` gets from the staged table. -/
abbrev wordAt (c : Dev nD) (off : Fin 1 → ℕ) (inb : ∀ a, off a + S1.size a ≤ S4.size a) : BitVec 32 :=
  (tM.access (Rect.unit (s := S4) off S1.size inb)).read (Elt F) (tstg m ρ c) (Shape.Idx.first (s := S1) (numel1_S1.symm ▸ Nat.one_pos))

section Words

variable (hpre : PreOK m σ) (c : Dev nD)
include hpre

/-- A load at offset `j` gets the word naming `σ j`. -/
theorem wordAt_eq {off : Fin 1 → ℕ} (j : Fin 4) (e : off = ![j.val]) (inb) : wordAt m ρ c off inb = word (σ j) :=
  (word_read j e inb _ _).trans ((tstg_apply m ρ c j).trans (hpre c j))

/-- The receiver's addresses lie in the mesh, and they and the sender's are what `σ` and its inverse say, in the words
    as loaded. -/
theorem chk2_at : k0_chk2 c (wordAt m ρ c (k0_off1 c) (k0_off1_inb c)) := by
  rw [wordAt_eq m ρ σ hpre c (pos c) (k0_off1_eq c)]; exact chk2_word c _
theorem dev2_at (h) : (⟨k0_dev2 c (wordAt m ρ c (k0_off1 c) (k0_off1_inb c)), h⟩ : Dev nD) = move σ c :=
  Fin.ext (by show k0_dev2 c _ = _; rw [wordAt_eq m ρ σ hpre c (pos c) (k0_off1_eq c)]; exact dev2_val c _)
theorem dev3_at (h) : (⟨k0_dev3 c (wordAt m ρ c (k0_off1 c) (k0_off1_inb c)), h⟩ : Dev nD) = move σ c :=
  Fin.ext (by show k0_dev3 c _ = _; rw [wordAt_eq m ρ σ hpre c (pos c) (k0_off1_eq c)]; exact dev3_val c _)
theorem dev1_at (h) : (⟨k0_dev1 c (wordAt m ρ c ![0] inb_S4_S1_0) (wordAt m ρ c ![1] inb_S4_S1_1) (wordAt m ρ c ![2] inb_S4_S1_2)
      (wordAt m ρ c ![3] inb_S4_S1_3), h⟩ : Dev nD) = move σ.symm c :=
  Fin.ext (by
    show k0_dev1 c _ _ _ _ = _
    rw [wordAt_eq m ρ σ hpre c (off := ![0]) 0 rfl, wordAt_eq m ρ σ hpre c (off := ![1]) 1 rfl, wordAt_eq m ρ σ hpre c (off := ![2]) 2 rfl, wordAt_eq m ρ σ hpre c (off := ![3]) 3 rfl, dev1_val,
      lastAt_perm]
    rfl)

end Words

/-! ## What the body starts from and ends with -/

/-- The invariants of the cells device `c` touches: its own five, its sender's barrier, its receiver's two receive cells. -/
def invs (K : Dev nD × Fin 5 → ℕ) (c : Dev nD) : sProp 𝕄 :=
  iprop(cellInv EX (exch m σ) (K (c, 0)) (barCell c) ∗ cellInv EX (exch m σ) (K (c, 1)) (sendCell 0 c) ∗ cellInv EX (exch m σ) (K (c, 2)) (sendCell 1 c)
    ∗ cellInv EX (exch m σ) (K (c, 3)) (recvCell 0 c) ∗ cellInv EX (exch m σ) (K (c, 4)) (recvCell 1 c)
    ∗ cellInv EX (exch m σ) (K (move σ.symm c, 0)) (barCell (move σ.symm c))
    ∗ cellInv EX (exch m σ) (K (move σ c, 3)) (recvCell 0 (move σ c)) ∗ cellInv EX (exch m σ) (K (move σ c, 4)) (recvCell 1 (move σ c)))

instance invs_persistent (K : Dev nD × Fin 5 → ℕ) (c : Dev nD) : BI.Persistent (invs m σ K c) := by unfold invs; infer_instance

/-- The tokens of the duties device `c` pays. -/
def payToks (c : Dev nD) : sProp 𝕄 :=
  iprop(dutyTok EX (barCell (move σ.symm c)) 0 () ∗ dutyTok EX (recvCell 0 (move σ c)) 0 () ∗ dutyTok EX (recvCell 1 (move σ c)) 0 ()
    ∗ dutyTok EX (sendCell 0 c) 0 () ∗ dutyTok EX (sendCell 1 c) 0 ())

/-- Device `c`'s positions: at the start of its own five cells. -/
def poss (c : Dev nD) : sProp 𝕄 :=
  iprop(atPos EX (barCell c) 0 ∅ 0 ∗ atPos EX (sendCell 0 c) 0 ∅ 0 ∗ atPos EX (sendCell 1 c) 0 ∅ 0
    ∗ atPos EX (recvCell 0 c) 0 ∅ 0 ∗ atPos EX (recvCell 1 c) 0 ∅ 0)

/-- That the cells device `c` pays have reached the round it pays in. -/
def marks (c : Dev nD) : sProp 𝕄 :=
  iprop(reached EX (barCell (move σ.symm c)) 0 ∗ reached EX (recvCell 0 (move σ c)) 0 ∗ reached EX (recvCell 1 (move σ c)) 0
    ∗ reached EX (sendCell 0 c) 0 ∗ reached EX (sendCell 1 c) 0)

instance marks_persistent (c : Dev nD) : BI.Persistent (marks (F := F) σ c) := by unfold marks; infer_instance

def ghost (K : Dev nD × Fin 5 → ℕ) (c : Dev nD) : sProp 𝕄 := iprop(invs m σ K c ∗ marks σ c ∗ poss c ∗ payToks σ c)

/-- What the body starts from: the ghost state, the credit its waits spend, the levels, its argument and its result buffer. -/
def start (c : Dev nD) : sProp 𝕄 :=
  iprop((∃ K, ghost m σ K c) ∗ cred (tallyAt (barCell c) () 1) ∗ cred (tallyAt (recvCell 0 c) () N) ∗ cred (tallyAt (recvCell 1 c) () N)
    ∗ levAts L lv ∗ xAll m c ∗ ∃ f, oAll c f)

/-- What it ends with: its argument, its result buffer holding its sender's argument, the five semaphores at zero. -/
def final (c : Dev nD) : sProp 𝕄 :=
  iprop(xAll m c ∗ oAll c (argOf m (move σ.symm c)) ∗ semVal (barCell c) 0 ∗ semVal (sendCell 0 c) 0 ∗ semVal (sendCell 1 c) 0
    ∗ semVal (recvCell 0 c) 0 ∗ semVal (recvCell 1 c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => tstg m ρ c
  Φ t := match t with
    | ⟨0, _⟩ => start m σ c
    | ⟨_ + 1, _⟩ => final m σ c
  q _ := fullShare
  owed t := match t with
    | ⟨0, _⟩ => O₀ σ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem fetch_0 (t : Fin cfg0.N) : (cfg0.win (0 : Fin 1)).fetch t = true := by rw [fin_N t]; rfl

/-- A staging buffer held at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-! ## The steps of the body -/

section Body

variable (K : Dev nD × Fin 5 → ℕ)

/-- One copy, of half `h`, to device `n`, which is `c`'s receiver: the half of the argument goes to the send cell, the
    half of the receiver's buffer, written, to the receive cell, and one debt is paid. -/
theorem wp_copy (c n : Dev nD) (hn : n = move σ c) (h : Fin 2) (k₁ k₂ : Fin 5)
    {hsc : (oH h : Memref sig (Dev.tc n : Thread nD τ).2.kind .hbm S1x512x1024 .f32).view.ref.isScScratch = false}
    {hsrc : (xH h).view.WordExact} {hdst : (oH h).view.WordExact}
    {hsem : DmaTarget.Typed .hbm (.dma (recvS h)) (.remote (Dev.tc n : Thread nD τ) (oH h) (.dma (sendS h)) hsc)}
    {α : Type} {Q : α → sProp 𝕄} {k : PUnit → Prog (TpuEff nD τ sig (Elt F) Λ₀ .tc) α}
    (fd : FVec F S1x1024x1024 .f32) (O : CellTallies nD τ sig Unit) (W : Waits sig Unit) :
    iprop(cellInv EX (exch m σ) (K (c, k₁)) (sendCell h c) ∗ cellInv EX (exch m σ) (K (move σ c, k₂)) (recvCell h (move σ c))
        ∗ xPts m h c ∗ oPts h (move σ c) fd
        ∗ owes (c : Thread nD τ) (O + tallyAt (recvCell h (move σ c)) () N) W
        ∗ dutyTok EX (sendCell h c) 0 () ∗ reached EX (sendCell h c) 0
        ∗ dutyTok EX (recvCell h (move σ c)) 0 () ∗ reached EX (recvCell h (move σ c)) 0)
      ⊢ iprop(((cred (tallyAt (sendCell h c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xH h) (.remote (Dev.tc n : Thread nD τ) (oH h) (.dma (sendS h)) hsc) (.dma (recvS h)) hsrc hdst hsem) k) Q) := by
  subst hn
  unfold xPts oPts
  have hpay : (pay m σ (move σ c) (.dma (recvS h)) : sProp 𝕄) = oPts h (move σ c) (argOf m c) := by rw [pay_recv, move_symm_move]
  exact Rounds.wp_send_pointsTo 𝒱₀ EX (exch m σ) (c : Thread nD τ) none (κ₁ := K (c, k₁)) (κ₂ := K (move σ c, k₂))
    (c' := (move σ c : Thread nD τ)) (src := xH h) (dst := oH h) (sS := .dma (sendS h)) (sem := .dma (recvS h))
    (r₁ := 0) (r₂ := 0) (d₁ := ()) (d₂ := ()) (fs := argOf m c) (fd := fd)
    (by rw [duties_send]; exact Finset.mem_singleton_self _) (by rw [duties_recv]; exact Finset.mem_singleton_self _)
    () () N rfl (amount_send m σ c h ()) (amount_recv m σ (move σ c) h ()) O rfl (W := W)
    (Entails.of_eq (pay_send m σ c h).symm)
    (Entails.of_eq ((pointsTo_congr (half_written h fd (argOf m c))).trans hpay.symm))

/-- The signal to `c`'s sender: `c`'s own result buffer goes with it, and one debt is paid. -/
theorem wp_ready (c n : Dev nD) (hn : n = move σ.symm c)
    {α : Type} {Q : α → sProp 𝕄} {k : PUnit → Prog (TpuEff nD τ sig (Elt F) Λ₀ .tc) α} (fo : FVec F S1x1024x1024 .f32) (W : Waits sig Unit) :
    iprop(cellInv EX (exch m σ) (K (move σ.symm c, 0)) (barCell (move σ.symm c)) ∗ owes (c : Thread nD τ) (O₀ σ c) W
        ∗ dutyTok EX (barCell (move σ.symm c)) 0 () ∗ oAll c fo ∗ reached EX (barCell (move σ.symm c)) 0)
      ⊢ iprop((owes (c : Thread nD τ) (O₁ σ c) W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n, .tc) barS (1#32).toInt) k) Q) := by
  subst hn
  have hp : (oAll c fo : sProp 𝕄) ⊢ (exch m σ).payload (barCell (move σ.symm c)) 0 () := by
    show _ ⊢ pay m σ (move σ.symm c) (.reg barS)
    rw [pay_bar, move_move_symm]
    iintro H; iexists fo; iexact H
  exact (sep_mono_right (sep_mono_right (sep_mono_right (sep_mono_left hp)))).trans
    (Rounds.wp_signal 𝒱₀ EX (exch m σ) (c : Thread nD τ) none (dst := (move σ.symm c : Thread nD τ)) (κ := K (move σ.symm c, 0))
      (d := ()) (k' := 1) (by rw [duties_bar]; exact Finset.mem_singleton_self _) (amount_bar m σ _ ()) () (O₁ σ c) rfl)

def bodyPre (c : Dev nD) : sProp 𝕄 :=
  iprop((ghost m σ K c ∗ cred (tallyAt (barCell c) () 1) ∗ cred (tallyAt (recvCell 0 c) () N) ∗ cred (tallyAt (recvCell 1 c) () N)
      ∗ levAts L lv ∗ xAll m c ∗ ∃ f, oAll c f)
    ∗ (dats m ρ σ 0 c).owesAt () t₀.castSucc
    ∗ (∃ d, stg c cc0_stg0_0 ((dats m ρ σ 0 c).before (0 : Fin 1) t₀ d)))

def bodyPost (c : Dev nD) : sProp 𝕄 :=
  iprop(final m σ c ∗ (dats m ρ σ 0 c).owesAt () t₀.succ ∗ stg c cc0_stg0_0 (tstg m ρ c))

set_option maxHeartbeats 1600000 in
/-- The body, operation by operation. -/
theorem sound_body (hpre : PreOK m σ) (c : Dev nD) (Kt : PUnit → sProp 𝕄) :
    iprop(bodyPre m ρ σ K c ∗ (bodyPost m ρ σ c -∗ Kt ⟨⟩))
      ⊢ wp frame (wpE (defs₀ (F := F)) 𝒱₀ c none) Set.univ
          (cc0_body (Memref.whole cc0_stg0_0) (Memref.isWhole_whole _) (Memref.whole main_arg0) (Memref.isWhole_whole _)
            (Memref.whole main_v1) (Memref.isWhole_whole _) cc0_scratch0 cc0_scratch1) Kt := by
  simp only [cc0_body_eq_skeleton]; unfold cc0_body_skel
  simp only [k0_part1_eq_skeleton, k0_part2_eq_skeleton, k0_part3_eq_skeleton]; unfold k0_part1_skel k0_part2_skel k0_part3_skel
  simp only [semSignalWord, semWaitWord, smemLoad, smemLoadElt, Prog.lift, Prog.bind_op, Prog.bind_ret, Prog.pure_eq_ret, Prog.bind_assoc, wp_deviceId]
  unfold bodyPre ghost invs marks poss payToks
  iintro ⟨⟨⟨⟨⟨#HIb, #HIs0, #HIs1, #HIr0, #HIr1, #HIbS, #HIrD0, #HIrD1⟩, ⟨#HmbS, #HmrD0, #HmrD1, #Hms0, #Hms1⟩, ⟨HaB, HaS0, HaS1, HaR0, HaR1⟩, ⟨HtbS, HtrD0, HtrD1, Hts0, Hts1⟩⟩,
    HcB, HcR0, HcR1, #Hlev, HX, ⟨%fo, HO1⟩⟩, Ho, ⟨%d0, %g0, %hg0, Ht⟩⟩, Hk⟩
  have hx : g0 = tstg m ρ c := by rw [hg0]; unfold Dat.before; rw [if_pos (fetch_0 t₀)]; rfl
  subst hx
  unfold Dat.owesAt Pipeline.owesWithin
  icases Ho with ⟨%W, %hW, HO⟩
  rw [show (dats m ρ σ 0 c).owed t₀.castSucc = O₀ σ c from rfl]
  -- the table
  iapply (wp_load_rect 𝒱₀ (c : Thread nD τ) none Set.univ (m := tM) (r := Rect.unit (s := S4) (k0_off1 c) S1.size (k0_off1_inb c))
      (Finset.subset_univ _)) $$ Ht; iintro Ht
  simp only [wp_assume_of _ _ _ _ (d := k0_chk2.dec _ _) (chk2_at m ρ σ hpre c)]
  iapply (wp_load_rect 𝒱₀ (c : Thread nD τ) none Set.univ (m := tM) (r := Rect.unit (s := S4) ![0] S1.size inb_S4_S1_0)
      (Finset.subset_univ _)) $$ Ht; iintro Ht
  iapply (wp_load_rect 𝒱₀ (c : Thread nD τ) none Set.univ (m := tM) (r := Rect.unit (s := S4) ![1] S1.size inb_S4_S1_1)
      (Finset.subset_univ _)) $$ Ht; iintro Ht
  iapply (wp_load_rect 𝒱₀ (c : Thread nD τ) none Set.univ (m := tM) (r := Rect.unit (s := S4) ![2] S1.size inb_S4_S1_2)
      (Finset.subset_univ _)) $$ Ht; iintro Ht
  iapply (wp_load_rect 𝒱₀ (c : Thread nD τ) none Set.univ (m := tM) (r := Rect.unit (s := S4) ![3] S1.size inb_S4_S1_3)
      (Finset.subset_univ _)) $$ Ht; iintro Ht
  simp only [wp_assume_of _ _ _ _ (d := k0_chk1.dec _ _ _ _ _) (k0_chk1_all c _ _ _ _)]
  -- the signal to the sender
  iapply (wp_ready m σ K c _ (dev1_at m ρ σ hpre c _) fo W) $$ [HO HtbS HO1]
  · isplitr; · iexact HIbS
    isplitl [HO]; · iexact HO
    isplitl [HtbS]; · iexact HtbS
    isplitl [HO1]; · iexact HO1
    iexact HmbS
  iintro HO
  -- the wait for the receiver's signal
  iapply (Rounds.wp_wait_rest_token 𝒱₀ EX (exch m σ) (c : Thread nD τ) none (κ := K (c, 0))
      (wpE_semWait_eq 𝒱₀ (c : Thread nD τ) none Set.univ) (Set.mem_univ _) () (O := O₁ σ c) (W := W) (R := 0) (m := 0) (T := ∅)
      (by rw [expect_bar]; decide)) $$ [HcB HO HaB]
  · isplitr; · iexact HIb
    isplitl [HcB]; · iexact HcB
    isplitl [HO]; · iexact HO
    isplitr; · iapply (mayWait_bar σ c); iexact Hlev
    iexact HaB
  iintro ⟨HO, HaB, -, Hpay⟩
  ihave Hp := (Entails.of_eq (rest_bar m σ c)) $$ Hpay
  icases Hp with ⟨%fd, HoD⟩
  ihave HoD' := (oAll_halves (move σ c) fd).1 $$ HoD
  icases HoD' with ⟨HoD0, HoD1⟩
  ihave HX' := (xAll_halves m c).1 $$ HX
  icases HX' with ⟨HX0, HX1⟩
  -- the two copies
  unfold O₁
  iapply (wp_copy m σ K c _ (dev2_at m ρ σ hpre c _) 0 1 3 fd (tallyAt (recvCell 1 (move σ c)) () N) (insert (SemLoc.reg barS, ()) W)) $$ [HX0 HoD0 HO Hts0 HtrD0]
  · isplitr; · iexact HIs0
    isplitr; · iexact HIrD0
    isplitl [HX0]; · iexact HX0
    isplitl [HoD0]; · iexact HoD0
    isplitl [HO]; · iexact HO
    isplitl [Hts0]; · iexact Hts0
    isplitr; · iexact Hms0
    isplitl [HtrD0]; · iexact HtrD0
    iexact HmrD0
  iintro ⟨HcS0, HO⟩
  iapply (wp_copy m σ K c _ (dev3_at m ρ σ hpre c _) 1 2 4 fd 0 (insert (SemLoc.reg barS, ()) W)) $$ [HX1 HoD1 HO Hts1 HtrD1]
  · isplitr; · iexact HIs1
    isplitr; · iexact HIrD1
    isplitl [HX1]; · iexact HX1
    isplitl [HoD1]; · iexact HoD1
    isplitl [HO]; · rw [zero_add]; iexact HO
    isplitl [Hts1]; · iexact Hts1
    isplitr; · iexact Hms1
    isplitl [HtrD1]; · iexact HtrD1
    iexact HmrD1
  iintro ⟨HcS1, HO⟩
  -- the four waits
  iapply (Rounds.wp_wait_rest_token 𝒱₀ EX (exch m σ) (c : Thread nD τ) none (sm := .dma (sendS 0)) (κ := K (c, 1))
      (wpE_waitDma2_eq 𝒱₀ (c : Thread nD τ) none Set.univ) (Set.mem_univ _) () (O := 0) (R := 0) (m := 0) (T := ∅)
      (by rw [Nat.zero_add]; exact (expect_send m σ c 0).symm)) $$ [HcS0 HO HaS0]
  · isplitr; · iexact HIs0
    isplitl [HcS0]; · iexact HcS0
    isplitl [HO]; · iexact HO
    isplitr; · rw [MayWait_zero]; iempintro
    iexact HaS0
  iintro ⟨HO, HaS0, -, Hpay⟩
  ihave HX0 := (Entails.of_eq (rest_send m σ c 0)) $$ Hpay
  iapply (Rounds.wp_wait_rest_token 𝒱₀ EX (exch m σ) (c : Thread nD τ) none (sm := .dma (recvS 0)) (κ := K (c, 3))
      (wpE_waitDma2_eq 𝒱₀ (c : Thread nD τ) none Set.univ) (Set.mem_univ _) () (O := 0) (R := 0) (m := 0) (T := ∅)
      (by rw [Nat.zero_add]; exact (expect_recv m σ c 0).symm)) $$ [HcR0 HO HaR0]
  · isplitr; · iexact HIr0
    isplitl [HcR0]; · iexact HcR0
    isplitl [HO]; · iexact HO
    isplitr; · rw [MayWait_zero]; iempintro
    iexact HaR0
  iintro ⟨HO, HaR0, -, Hpay⟩
  ihave HO0 := (Entails.of_eq (rest_recv m σ c 0)) $$ Hpay
  iapply (Rounds.wp_wait_rest_token 𝒱₀ EX (exch m σ) (c : Thread nD τ) none (sm := .dma (sendS 1)) (κ := K (c, 2))
      (wpE_waitDma2_eq 𝒱₀ (c : Thread nD τ) none Set.univ) (Set.mem_univ _) () (O := 0) (R := 0) (m := 0) (T := ∅)
      (by rw [Nat.zero_add]; exact (expect_send m σ c 1).symm)) $$ [HcS1 HO HaS1]
  · isplitr; · iexact HIs1
    isplitl [HcS1]; · iexact HcS1
    isplitl [HO]; · iexact HO
    isplitr; · rw [MayWait_zero]; iempintro
    iexact HaS1
  iintro ⟨HO, HaS1, -, Hpay⟩
  ihave HX1 := (Entails.of_eq (rest_send m σ c 1)) $$ Hpay
  iapply (Rounds.wp_wait_rest_token 𝒱₀ EX (exch m σ) (c : Thread nD τ) none (sm := .dma (recvS 1)) (κ := K (c, 4))
      (wpE_waitDma2_eq 𝒱₀ (c : Thread nD τ) none Set.univ) (Set.mem_univ _) () (O := 0) (R := 0) (m := 0) (T := ∅)
      (by rw [Nat.zero_add]; exact (expect_recv m σ c 1).symm)) $$ [HcR1 HO HaR1]
  · isplitr; · iexact HIr1
    isplitl [HcR1]; · iexact HcR1
    isplitl [HO]; · iexact HO
    isplitr; · rw [MayWait_zero]; iempintro
    iexact HaR1
  iintro ⟨HO, HaR1, -, Hpay⟩
  ihave HO1 := (Entails.of_eq (rest_recv m σ c 1)) $$ Hpay
  -- the five cells close at zero
  imod (Rounds.cell_close EX (exch m σ) (Set.mem_univ (K (c, 0))) (fun h => h) (R := 0 + 1) (duties_later m σ (barCell c))) $$ [HaB] with HzB
  · isplitr; · iexact HIb
    iexact HaB
  imod (Rounds.cell_close EX (exch m σ) (Set.mem_univ (K (c, 1))) (fun h => h) (R := 0 + 1) (duties_later m σ (sendCell 0 c))) $$ [HaS0] with HzS0
  · isplitr; · iexact HIs0
    iexact HaS0
  imod (Rounds.cell_close EX (exch m σ) (Set.mem_univ (K (c, 2))) (fun h => h) (R := 0 + 1) (duties_later m σ (sendCell 1 c))) $$ [HaS1] with HzS1
  · isplitr; · iexact HIs1
    iexact HaS1
  imod (Rounds.cell_close EX (exch m σ) (Set.mem_univ (K (c, 3))) (fun h => h) (R := 0 + 1) (duties_later m σ (recvCell 0 c))) $$ [HaR0] with HzR0
  · isplitr; · iexact HIr0
    iexact HaR0
  imod (Rounds.cell_close EX (exch m σ) (Set.mem_univ (K (c, 4))) (fun h => h) (R := 0 + 1) (duties_later m σ (recvCell 1 c))) $$ [HaR1] with HzR1
  · isplitr; · iexact HIr1
    iexact HaR1
  ihave HX := (xAll_halves m c).2 $$ [HX0 HX1]
  · isplitl [HX0] <;> iassumption
  ihave HR := (oAll_halves c (argOf m (move σ.symm c))).2 $$ [HO0 HO1]
  · isplitl [HO0] <;> iassumption
  rw [wp_ret]; imodintro
  iapply Hk
  unfold bodyPost final Dat.owesAt Pipeline.owesWithin
  rw [show (dats m ρ σ 0 c).owed t₀.succ = 0 from rfl]
  isplitl [HX HR HzB HzS0 HzS1 HzR0 HzR1]
  · isplitl [HX]; · iexact HX
    isplitl [HR]; · iexact HR
    isplitl [HzB]; · iexact HzB
    isplitl [HzS0]; · iexact HzS0
    isplitl [HzS1]; · iexact HzS1
    isplitl [HzR0] <;> iassumption
  isplitl [HO]
  · iexists _
    isplitr
    rotate_left
    · iexact HO
    · ipureintro; exact fun _ _ => Or.inl trivial
  iexists _; isplitr; · (ipureintro; rfl)
  iexact Ht

def bodyPre' (c : Dev nD) : sProp 𝕄 :=
  iprop(start m σ c ∗ (dats m ρ σ 0 c).owesAt () t₀.castSucc
    ∗ (∃ d, stg c cc0_stg0_0 ((dats m ρ σ 0 c).before (0 : Fin 1) t₀ d)))

end Body

set_option maxRecDepth 4000 in
/-- The body meets what the launch asks of it. -/
theorem body_obligation (hpre : PreOK m σ) (c : Dev nD) : BodyObligation (dats (F := F) m ρ σ 0 c) (defs₀ (F := F)) 𝒱₀ () Set.univ := fun t => by
  rw [fin_N t]
  rw [bigSep_W0, bigSep_W0]
  simp only [owns_whole_eq]
  show bodyPre' m ρ σ c ⊢ wp frame (wpE (defs₀ (F := F)) 𝒱₀ c none) Set.univ
    (cc0_body (Memref.whole cc0_stg0_0) (Memref.isWhole_whole _) (Memref.whole main_arg0) (Memref.isWhole_whole _)
            (Memref.whole main_v1) (Memref.isWhole_whole _) cc0_scratch0 cc0_scratch1) (fun _ => bodyPost m ρ σ c)
  unfold bodyPre' start
  iintro ⟨⟨⟨%K, Hg⟩, Hrest⟩, Ho, Ht⟩
  iapply (sound_body m ρ σ K hpre c fun _ => bodyPost m ρ σ c)
  unfold bodyPre
  isplitr []
  · isplitl [Hg Hrest]
    · isplitl [Hg] <;> iassumption
    isplitl [Ho] <;> iassumption
  · iintro H; iexact H

end Cert.PermuteProof

end
-- ==== Proof.Launch.lean ====
/-
# The run of the kernel on the mesh

The launch gives every device its five semaphores at zero and its buffers. This module turns that into what the body of
each device starts from: it opens the exchange's cells, deals every duty's token to the device that pays the duty, counts
the credit each device may spend from what the others owe it, and reads the final memory off what the bodies end with.
The result is `run_main`: for a table that spells a permutation, at any float values and from any memory with semaphores
at zero, every fair execution ends, with every device's result holding its sender's argument.
-/
module

public import proofs.«01_k».proof.Proof.Body
public import Idealize.ShloMosaic.Lib.Pipeline.CollectiveSegs

@[expose] public section

noncomputable section

namespace Cert.PermuteProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (σ : Equiv.Perm (Fin 4))

theorem ownSemFacts : Pipeline.OwnSemFacts cfg0.spec osem := by decide

theorem share_eq (c : Dev nD) (w : Fin cfg0.W) : (dats m ρ σ 0 c).share w = fullShare := by unfold Dat.share; split <;> rfl

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-! ## What the launch mints and deals -/

/-- The cells of the exchange, and one token for each one's duty. -/
def exchCells : Finset (GSem nD τ sig) := Finset.univ.map ⟨kcell, kcell_injective⟩
theorem tokOf_injective : Function.Injective fun ck : Dev nD × Fin 5 => (kcell ck, (0 : ℕ), ()) :=
  fun _ _ h => kcell_injective (congrArg Prod.fst h)
def exchToks : Finset (GSem nD τ sig × ℕ × Unit) := Finset.univ.map ⟨_, tokOf_injective⟩

/-- The launch element: the launch library's part and the exchange's. -/
def u₀ : UU := (initOf (Pipeline.cells cfgs cellOf_inj) (Pipeline.launchToks cfgs cellOf_inj), initOf exchCells exchToks)

/-- The tokens of device `c`'s own cells, and its positions and marks there. -/
def toks (c : Dev nD) : sProp 𝕄 := bigSep Finset.univ fun k : Fin 5 => dutyTok EX (kcell (c, k)) 0 ()
def posAll (c : Dev nD) : sProp 𝕄 := bigSep Finset.univ fun k : Fin 5 => atPos EX (kcell (c, k)) 0 ∅ 0
def markAll (c : Dev nD) : sProp 𝕄 := bigSep Finset.univ fun k : Fin 5 => reached EX (kcell (c, k)) 0

/-- What the launch element deals device `c`, and what the global step makes of it. -/
def G (c : Dev nD) : sProp 𝕄 :=
  iprop((bigSep Finset.univ fun k : Fin 5 => roundState EX (exch m σ) (kcell (c, k)) 0) ∗ posAll c ∗ markAll c ∗ toks c)
def G' (c : Dev nD) : sProp 𝕄 := iprop(∃ K, ghost m σ K c)

theorem over_cells (Φ : GSem nD τ sig → sProp 𝕄) :
    bigSep exchCells Φ = bigSep Finset.univ fun c : Dev nD => bigSep Finset.univ fun k : Fin 5 => Φ (kcell (c, k)) := by
  unfold exchCells; rw [bigSep_map, bigSep_univ_prod]; rfl

theorem over_toks : bigSep exchToks (fun x => (dutyTok EX x.1 x.2.1 x.2.2 : sProp 𝕄)) = bigSep Finset.univ fun c : Dev nD => toks c := by
  unfold exchToks; rw [bigSep_map, bigSep_univ_prod]; rfl

theorem deal : BI.own (EX (initOf exchCells exchToks)) ⊢ (|==> bigSep Finset.univ (G m σ) : sProp 𝕄) := by
  iintro HX
  imod (Rounds.fund EX (exch m σ) exchCells exchToks) $$ HX with ⟨Hst, Hr, Hat, Htok⟩
  imodintro
  ihave Hst := (Entails.of_eq (over_cells fun g => roundState EX (exch m σ) g 0)) $$ Hst
  ihave Hat := (Entails.of_eq (over_cells fun g => atPos EX g 0 ∅ 0)) $$ Hat
  ihave Hr := (Entails.of_eq (over_cells fun g => reached EX g 0)) $$ Hr
  ihave Htok := (Entails.of_eq over_toks) $$ Htok
  unfold G posAll markAll; simp only [bigSep_sep']
  isplitl [Hst]; · iexact Hst
  isplitl [Hat]; · iexact Hat
  isplitl [Hr] <;> iassumption

/-! ## Opening the cells -/

theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (recvCell 0 c) 0 ∗ semVal (recvCell 1 c) 0) := by
  rw [Pipeline.ownSems0_eq_of_list c osem [0, 1, 2, 3] (by decide) (by decide)]; rfl

theorem unscopedSems0_eq (c : Dev nD) : (unscopedSems0 c : sProp 𝕄) = semVal (barCell c) 0 := by
  unfold unscopedSems0; rw [bigSep_eq_bigSepL_of_eq [SemLoc.reg barS] (by decide) (by decide)]; rfl

/-- The five semaphores of a device, at zero. -/
theorem sems0_intro (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_five]
  iintro ⟨HS, HB⟩
  isplitl [HB]; · iexact HB
  iexact HS

/-- A device's cells opened: an invariant for each. -/
theorem cells_open (c : Dev nD) :
    iprop(Pipeline.ownSems0 (Ix := Unit) (Name := ℕ) (U := UU) (Lvl := ℕ) (Val := Elt F) (τ := τ) osem c ∗ unscopedSems0 c ∗ G m σ c)
      ⊢ |={Set.univ}=> iprop((bigSep Finset.univ fun k => iprop(∃ κ : ℕ, cellInv EX (exch m σ) κ (kcell (c, k)))) ∗ posAll c ∗ markAll c ∗ toks c) := by
  unfold G
  iintro ⟨Hos, Hus, Hst, Hrest⟩
  ihave Hv := (sems0_intro (F := F) c) $$ [Hos Hus]
  · isplitl [Hos] <;> iassumption
  have hopen : iprop((bigSep Finset.univ fun k : Fin 5 => semVal (kcell (c, k)) 0) ∗ bigSep Finset.univ fun k : Fin 5 => roundState EX (exch m σ) (kcell (c, k)) 0)
      ⊢ (|={Set.univ}=> bigSep Finset.univ fun k => iprop(∃ κ : ℕ, cellInv EX (exch m σ) κ (kcell (c, k))) : sProp 𝕄) := by
    rw [← bigSep_sep']
    exact (bigSep_mono fun k _ => (Rounds.body_intro EX (exch m σ) (kcell (c, k))).trans inv_alloc).trans (bigSep_fupd _ _)
  imod hopen $$ [Hv Hst] with Hinv
  · isplitl [Hv] <;> iassumption
  imodintro
  isplitl [Hinv] <;> iassumption

/-! ## Dealing around the mesh -/

/-- What everyone may know: every cell's invariant and that it has reached round 0. -/
def records (K : Dev nD × Fin 5 → ℕ) : sProp 𝕄 :=
  iprop((bigSep Finset.univ fun ck : Dev nD × Fin 5 => cellInv EX (exch m σ) (K ck) (kcell ck))
    ∗ bigSep Finset.univ fun ck : Dev nD × Fin 5 => reached EX (kcell ck) 0)

instance records_persistent (K : Dev nD × Fin 5 → ℕ) : BI.Persistent (records m σ K) := by unfold records; infer_instance

theorem records_inv (K : Dev nD × Fin 5 → ℕ) (ck : Dev nD × Fin 5) : records m σ K ⊢ cellInv EX (exch m σ) (K ck) (kcell ck) := by
  unfold records
  have h : (bigSep Finset.univ fun ck : Dev nD × Fin 5 => cellInv EX (exch m σ) (K ck) (kcell ck) : sProp 𝕄) ⊢ cellInv EX (exch m σ) (K ck) (kcell ck) :=
    bigSep_elim (Finset.mem_univ ck)
  iintro ⟨H, -⟩
  iapply h; iexact H
theorem records_mark (K : Dev nD × Fin 5 → ℕ) (ck : Dev nD × Fin 5) : records m σ K ⊢ reached EX (kcell ck) 0 := by
  unfold records
  have h : (bigSep Finset.univ fun ck : Dev nD × Fin 5 => reached EX (kcell ck) 0 : sProp 𝕄) ⊢ reached EX (kcell ck) 0 :=
    bigSep_elim (Finset.mem_univ ck)
  iintro ⟨-, H⟩
  iapply h; iexact H

/-- From the records, a device's positions and the tokens it pays with, its ghost state. -/
theorem ghost_intro (K : Dev nD × Fin 5 → ℕ) (c : Dev nD) : iprop(records m σ K ∗ poss c ∗ payToks σ c) ⊢ G' m σ c := by
  unfold G' ghost invs marks
  iintro ⟨#HR, Hp, Ht⟩
  iexists K
  isplitr
  · isplitr; · iapply (records_inv m σ K (c, 0)); iexact HR
    isplitr; · iapply (records_inv m σ K (c, 1)); iexact HR
    isplitr; · iapply (records_inv m σ K (c, 2)); iexact HR
    isplitr; · iapply (records_inv m σ K (c, 3)); iexact HR
    isplitr; · iapply (records_inv m σ K (c, 4)); iexact HR
    isplitr; · iapply (records_inv m σ K (move σ.symm c, 0)); iexact HR
    isplitr; · iapply (records_inv m σ K (move σ c, 3)); iexact HR
    iapply (records_inv m σ K (move σ c, 4)); iexact HR
  isplitr
  · isplitr; · iapply (records_mark m σ K (move σ.symm c, 0)); iexact HR
    isplitr; · iapply (records_mark m σ K (move σ c, 3)); iexact HR
    isplitr; · iapply (records_mark m σ K (move σ c, 4)); iexact HR
    isplitr; · iapply (records_mark m σ K (c, 1)); iexact HR
    iapply (records_mark m σ K (c, 2)); iexact HR
  isplitl [Hp] <;> iassumption

/-- Every token goes to the device that pays its duty: a barrier's to the one the device sends to, a receive cell's to the
    one that sends to the device, a send cell's stays. -/
theorem toks_dealt : (bigSep Finset.univ fun c : Dev nD => (toks c : sProp 𝕄)) ⊢ bigSep Finset.univ fun c : Dev nD => payToks σ c := by
  unfold toks payToks
  simp only [bigSep_five]
  rw [bigSep_sep', bigSep_sep', bigSep_sep', bigSep_sep', bigSep_sep', bigSep_sep', bigSep_sep', bigSep_sep',
    bigSep_univ_equiv (moves σ).symm (fun c : Dev nD => (dutyTok EX (kcell (c, 0)) 0 () : sProp 𝕄)),
    bigSep_univ_equiv (moves σ) (fun c : Dev nD => (dutyTok EX (kcell (c, 3)) 0 () : sProp 𝕄)),
    bigSep_univ_equiv (moves σ) (fun c : Dev nD => (dutyTok EX (kcell (c, 4)) 0 () : sProp 𝕄))]
  iintro ⟨HB, HS0, HS1, HR0, HR1⟩
  isplitl [HB]; · iexact HB
  isplitl [HR0]; · iexact HR0
  isplitl [HR1]; · iexact HR1
  isplitl [HS0] <;> iassumption

/-- A persistent fact serves every member of a family. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem posAll_eq (c : Dev nD) : (posAll c : sProp 𝕄) = poss c := by unfold posAll poss; rw [bigSep_five]

/-- All devices' opened cells and tokens, regrouped into every device's ghost state. -/
theorem regroup :
    (bigSep Finset.univ fun c : Dev nD =>
        iprop((bigSep Finset.univ fun k => iprop(∃ κ : ℕ, cellInv EX (exch m σ) κ (kcell (c, k)))) ∗ posAll c ∗ markAll c ∗ toks c) : sProp 𝕄)
      ⊢ bigSep Finset.univ (G' m σ) := by
  unfold markAll
  rw [bigSep_sep', bigSep_sep', bigSep_sep', ← bigSep_univ_prod (fun ck : Dev nD × Fin 5 => iprop(∃ κ : ℕ, cellInv EX (exch m σ) κ (kcell ck))),
    ← bigSep_univ_prod (fun ck : Dev nD × Fin 5 => (reached EX (kcell ck) 0 : sProp 𝕄))]
  iintro ⟨HI, Hat, #HR, Htok⟩
  ihave HK := (BI.bigSep_exists_pi Finset.univ (fun (ck : Dev nD × Fin 5) (κ : ℕ) => (cellInv EX (exch m σ) κ (kcell ck) : sProp 𝕄))) $$ HI
  icases HK with ⟨%K, #HI⟩
  ihave Htok := (toks_dealt (F := F) σ) $$ Htok
  iapply (with_persistent (R := records m σ K) fun c _ => ghost_intro m σ K c)
  isplitr
  · unfold records; isplitl; · iexact HI
    iexact HR
  · rw [bigSep_sep']
    isplitl [Hat]
    · iapply (Entails.of_eq (bigSep_congr fun c _ => posAll_eq (F := F) c)); iexact Hat
    · iexact Htok

/-- The global step: every device's semaphores at once. -/
theorem glob : (bigSep Finset.univ fun c => iprop(Pipeline.ownSems0 (Ix := Unit) (Name := ℕ) (U := UU) (Lvl := ℕ) (Val := Elt F) (τ := τ) osem c
      ∗ unscopedSems0 c ∗ G m σ c) : sProp 𝕄) ⊢ |={Set.univ}=> bigSep Finset.univ (G' m σ) :=
  ((bigSep_mono fun c _ => cells_open m σ c).trans (bigSep_fupd _ _)).trans (BI.fupd_mono (regroup m σ))

/-! ## The credit each device starts with -/

theorem bar_eq_iff {a b : Dev nD} : barCell a = barCell b ↔ a = b := ⟨congrArg fun g : GSem nD τ sig => g.1.1, fun h => h ▸ rfl⟩
theorem recv_eq_iff {h h' : Fin 2} {a b : Dev nD} : recvCell h a = recvCell h' b ↔ h = h' ∧ a = b :=
  ⟨fun e => ⟨recv_inj (congrArg Prod.snd e), congrArg (fun g : GSem nD τ sig => g.1.1) e⟩, fun e => by rw [e.1, e.2]⟩

theorem eq_move_symm {a b : Dev nD} : a = move σ.symm b ↔ b = move σ a :=
  ⟨fun h => by rw [h, move_move_symm], fun h => by rw [h, move_symm_move]⟩

/-- What device `d` owes the barrier cell of `c`: one unit if `c` sends to `d`. -/
theorem owed_bar (d c : Dev nD) : O₀ σ d (barCell c) () = if d = move σ c then 1 else 0 := by
  unfold O₀ O₁
  rw [Pi.add_apply, Finsupp.add_apply, Pi.add_apply, Finsupp.add_apply, tallyAt_ne_cell (fun h => recv_ne_bar 1 (congrArg Prod.snd h).symm),
    tallyAt_ne_cell (fun h => recv_ne_bar 0 (congrArg Prod.snd h).symm), tallyAt_apply, Finsupp.zero_apply, Nat.zero_add, Nat.zero_add]
  simp only [bar_eq_iff, eq_move_symm, and_true]

/-- What device `d` owes a receive cell of `c`: a copy if `d` sends to `c`. -/
theorem owed_recv (h : Fin 2) (d c : Dev nD) : O₀ σ d (recvCell h c) () = if d = move σ.symm c then N else 0 := by
  unfold O₀ O₁
  rw [Pi.add_apply, Finsupp.add_apply, Pi.add_apply, Finsupp.add_apply,
    tallyAt_ne_cell (g' := recvCell h c) (g := barCell (move σ.symm d)) (fun e => recv_ne_bar h (congrArg Prod.snd e)), tallyAt_apply, tallyAt_apply, Finsupp.zero_apply, Nat.add_zero]
  simp only [recv_eq_iff, eq_move_symm, and_true]
  match h with
  | 0 => rw [if_neg (fun e => absurd e.1 (by decide)), Nat.zero_add]; simp only [true_and]
  | 1 => rw [if_neg (c := (1 : Fin 2) = 0 ∧ _) (fun e => absurd e.1 (by decide)), Nat.add_zero]; simp only [true_and]

theorem launch_bar (c : Dev nD) :
    tallyOn (barCell c) (launchCredit (Pipeline.owing (O₀ σ)) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar σ d c,
    Finset.sum_ite_eq' Finset.univ (move σ c) fun _ => 1, if_pos (Finset.mem_univ _)]

theorem launch_recv (h : Fin 2) (c : Dev nD) :
    tallyOn (recvCell h c) (launchCredit (Pipeline.owing (O₀ σ)) 0 (recvCell h c)) = (tallyAt (recvCell h c) () N : CellTallies nD τ sig Unit) := by
  unfold tallyAt; refine congrArg _ (Finsupp.ext fun u => ?_); cases u
  rw [Pipeline.launchCredit_owing, Finsupp.single_eq_same, Finset.sum_congr rfl fun d _ => owed_recv σ h d c,
    Finset.sum_ite_eq' Finset.univ (move σ.symm c) fun _ => N, if_pos (Finset.mem_univ _)]

theorem creds (c : Dev nD) :
    (Pipeline.launchCred (O₀ σ) c : sProp 𝕄)
      ⊢ iprop(cred (tallyAt (barCell c) () 1) ∗ cred (tallyAt (recvCell 0 c) () N) ∗ cred (tallyAt (recvCell 1 c) () N)) := by
  unfold Pipeline.launchCred
  rw [bigSep_univ_at _ (SemLoc.reg barS), launch_bar]
  refine sep_mono_right ?_
  have h0 : SemLoc.dma (recvS 0) ∈ Finset.univ.erase (SemLoc.reg barS : SemLoc sig) := Finset.mem_erase.mpr ⟨recv_ne_bar 0, Finset.mem_univ _⟩
  rw [← Finset.insert_erase h0, bigSep_insert (Finset.notMem_erase _ _), launch_recv]
  refine sep_mono_right ?_
  rw [← launch_recv]
  exact bigSep_elim (Finset.mem_erase.mpr ⟨fun e => absurd (recv_inj e) (by decide), Finset.mem_erase.mpr ⟨recv_ne_bar 1, Finset.mem_univ _⟩⟩)

/-! ## Before and after the bodies -/

theorem start_intro (c : Dev nD) :
    iprop(Pipeline.unscopedRestP Pipeline.Prefetch.none cfg0.spec c (fun b => m ((c : Thread nD τ).loc b)) ∗ levAts L lv
        ∗ Pipeline.launchCred (O₀ σ) c ∗ prngReg c (ρ c) ∗ G' m σ c)
      ⊢ |={Set.univ}=> iprop(start m σ c ∗ emp) := by
  rw [Pipeline.unscopedRestP_none, unscopedRest0_eq]
  iintro ⟨⟨HX, HO⟩, Hlev, Hcr, -, HG⟩
  ihave Hc := (creds (F := F) σ c) $$ Hcr
  icases Hc with ⟨HB, HR0, HR1⟩
  imodintro
  unfold start G' xAll oAll
  isplitl
  · isplitl [HG]; · iexact HG
    isplitl [HB]; · iexact HB
    isplitl [HR0]; · iexact HR0
    isplitl [HR1]; · iexact HR1
    isplitl [Hlev]; · iexact Hlev
    isplitl [HX]; · iexact HX
    iexists _; iexact HO
  · iempintro

theorem enter (c : Dev nD) :
    iprop(start m σ c ∗ Pipeline.prefHeld Pipeline.Prefetch.none c (fun _ => fullShare.right) (fun k => k.elim0) ∗ Pipeline.scopedRest cfg0.spec c)
      ⊢ (dats m ρ σ 0 c).Φ 0 := by
  rw [show (dats m ρ σ 0 c).Φ 0 = start m σ c from rfl]
  iintro ⟨Hs, -, -⟩
  iexact Hs

/-- What a device keeps past the launch, to be read off the final memory. -/
def kept (c : Dev nD) : sProp 𝕄 := iprop(unscopedSems0 c ∗ xAll m c ∗ oAll c (argOf m (move σ.symm c)))

theorem leave (c : Dev nD) :
    (dats m ρ σ 0 c).Φ (Fin.last cfg0.N) ⊢ iprop(kept m σ c ∗ Pipeline.ownSems0 osem c ∗ Pipeline.scopedRest cfg0.spec c) := by
  rw [show (dats m ρ σ 0 c).Φ (Fin.last cfg0.N) = final m σ c from rfl, scopedRest0_eq, ownSems0_eq]
  unfold final kept
  rw [unscopedSems0_eq]
  iintro ⟨HX, HO, HB, HS⟩
  isplitl [HX HO HB]
  · isplitl [HB]; · iexact HB
    isplitl [HX] <;> iassumption
  isplitl [HS]; · iexact HS
  iempintro

theorem waits (c : Dev nD) : (levAts L lv : sProp 𝕄) ⊢ Pipeline.cellsWaits cfgs (dats m ρ σ) () 0 c :=
  Pipeline.cellsWaits_intro cfgs (dats m ρ σ) () 0 c fun w s t =>
    mayWait_stage σ c _ (by fin_cases w <;> fin_cases s <;> decide) (by fin_cases w <;> fin_cases s <;> decide) _ (by
      rcases t with ⟨_ | _, ht⟩
      · exact Or.inl rfl
      · exact Or.inr rfl)

/-- What is read of device `c` in the final memory beside its table. -/
def Read (c : Dev nD) (s : MemSt nD τ sig (Elt F)) : Prop :=
  (∀ sm : SemLoc sig, sm.isScoped .tc = false → s.sem ((c.tc : Thread nD τ), sm) = 0)
    ∧ s.mem ((c : Thread nD τ).loc main_arg0) = argOf m c ∧ s.mem ((c : Thread nD τ).loc main_v1) = argOf m (move σ.symm c)

theorem read_kept (c : Dev nD) (s' : Phys nD τ sig (Elt F)) :
    iprop(kept m σ c ∗ emp ∗ SI s') ⊢ |={Set.univ}=> (iprop(⌜Read m σ c s'.mem⌝ ∗ SI s') : sProp 𝕄) := by
  unfold kept xAll oAll
  iintro ⟨⟨Hu, HX, HO⟩, -, HSI⟩
  icombine HSI HX gives %hx
  icombine HSI HO gives %ho
  imod (Pipeline.unscopedSems0_read (X := unscopedSems0 c) (c := c) fupd_intro s') $$ [Hu HSI] with ⟨%hs, HSI⟩
  · isplitl [Hu] <;> iassumption
  imodintro
  isplitr
  · ipureintro; exact ⟨hs, Buf.eq_of_forall_mem_univ hx, Buf.eq_of_forall_mem_univ ho⟩
  · iexact HSI

/-- The final states: both arguments as at launch, every device's result its sender's argument, every semaphore at zero. -/
def Ends : PUnit × MemSt nD τ sig (Elt F) → Prop := fun r =>
  (∀ c : Dev nD, r.2.mem ((c : Thread nD τ).loc main_arg0) = argOf m c ∧ r.2.mem ((c : Thread nD τ).loc main_arg1) = tblOf m c
    ∧ r.2.mem ((c : Thread nD τ).loc main_v1) = argOf m (move σ.symm c)) ∧ r.2.sem = fun _ => 0

set_option maxRecDepth 8000 in
/-- The run: for a table that spells a permutation, from any memory with semaphores at zero, every fair execution of the
    program on the mesh ends, and it ends in such a state. -/
theorem run_main (hpre : PreOK m σ) : θ_run defs (onTc (τ := τ) (main (F := F))) (s₀ m ρ) (Ends m σ) :=
  Pipeline.θ_run_region_owing_glob_pf (fun p => (cfgs p).toPCfg) (fun p => (cfgs p).toPCfg_adm) (dats m ρ σ) () cellOf_inj (0 : Fin 1)
    winFacts0.to₀ ownSemFacts (Pipeline.PreFacts.none _) EP defs₀ 𝒱₀ m ρ main
    (hmain := fun _ => rfl)
    (hbody := body_obligation m ρ σ hpre) (hne := block_pos0) (harr := arr_whole0) (hstage := stage_whole0) (hshare := share_eq m ρ σ)
    (hdistinct := winFacts0.arr_inj)
    (O₀ := O₀ σ) (howed₀ := fun _ => rfl) (howedN := fun _ => rfl)
    (L := L) (lv := lv) (hL := L_of_ne) (hwaits := waits m ρ σ)
    (G := G m σ) (G' := G' m σ) (u₀ := u₀)
    (hu₀ := by
      unfold u₀
      iintro Hu
      ihave H := (ownU_pair _ _) $$ Hu
      icases H with ⟨HP, HX⟩
      imod (deal m σ) $$ HX with HG
      imodintro
      isplitl [HP] <;> iassumption)
    (hglob := glob m σ)
    (hA := fun _ _ => rfl) (hpf := fun _ k => k.elim0)
    (X := start m σ) (Y := kept m σ) (Z := fun _ => iprop(emp))
    (hX := start_intro m ρ σ) (hin := enter m ρ σ) (hout := leave m ρ σ)
    (QY := Read m σ) (hY := read_kept m σ)
    (hQ := fun _ h hs => ⟨fun c => ⟨(h c).2.2.2.1, ((h c).1 (0 : Fin 1)).trans ((dats m ρ σ 0 c).arrAt_in (0 : Fin 1) rfl _), (h c).2.2.2.2⟩,
      sem_eq_zero hs fun c => (h c).2.2.1⟩)

end Cert.PermuteProof

end
-- ==== Proof.Reference.lean ====
/-
# What the reference computes

The reference sorts the table's words carrying their positions, wraps negative positions (there are none), and takes the
blocks of its argument in that order. For a table that spells a permutation `σ` the sorted positions are `σ⁻¹`, so block
`i` of the result is block `σ⁻¹ i` of the argument.
-/
module

public import proofs.«01_k».proof.Proof.Table
public import proofs.«01_k».proof.Proof.Gen.ReferenceIdeal
public import Idealize.ShloMosaic.Lib.ValueIdxCore
public import Idealize.ShloMosaic.Lib.SortFacts
public import Mathlib.Data.Fintype.Perm

@[expose] public section

noncomputable section

namespace Cert.PermuteProof

open Cert.ReferenceIdeal Cert.ReferenceIdeal.Gen
open Idealize.ShloMosaic Idealize.ShloMosaic.ValueIdx

variable {F : FTy → Type} [FloatOps F] (σ : Equiv.Perm (Fin 4))

/-- Sorting the four words of a permutation, place `j` comes from the position that holds `j`. -/
theorem sortedFrom_word : ∀ (σ : Equiv.Perm (Fin 4)) (j : Fin 4),
    sortedFrom (fun k k' => IntOp.cmpi .slt (word (σ k)) (word (σ k')) == 1#1) j = σ.symm j := by decide +kernel

/-- The reference's sort carrying the positions: the positions in the order of their words. -/
abbrev order (t : IVec S4 32) : IVec S4 32 := (Host.sort2 S4 0 comparator_i32_i32_d0 t (iotaInDim S4 32 0)).2

theorem order_eq (t : IVec S4 32) (ht : ∀ k, t (ix1 k) = word (σ k)) (j : Fin 4) : order t (ix1 j) = word (σ.symm j) := by
  have hal : ∀ k : Fin 4, (ix1 j : S4.Idx).along 0 k = ix1 k := fun k => by
    funext a; obtain rfl : a = 0 := Subsingleton.elim _ _; exact Function.update_self ..
  rw [← sortedFrom_word σ j]
  refine Eq.trans (b := word (sortedFrom (fun k k' : Fin 4 => IntOp.cmpi .slt (t ((ix1 j : S4.Idx).along 0 k)) (t ((ix1 j : S4.Idx).along 0 k')) == 1#1) j)) rfl ?_
  refine congrArg (fun b : Fin 4 → Fin 4 → Bool => word (sortedFrom b j)) (funext fun k => funext fun k' => ?_)
  rw [hal, hal, ht, ht]

/-- The positions as the gather takes them: wrapped where negative. -/
abbrev taken (t : IVec S4 32) : IVec S4 32 :=
  select (cmpi .slt (order t) (broadcastInDim S4 ![] bcast_S_S4 (constantI S_ 32 0#32)))
    (addi (order t) (broadcastInDim S4 ![] bcast_S_S4 (constantI S_ 32 4#32))) (order t)

/-- A position is not negative, so nothing wraps. -/
theorem wrap_word : ∀ j : Fin 4, Scalar.select (IntOp.cmpi .slt (word j) 0#32) (IntOp.addi (word j) 4#32) (word j) = word j := by decide

theorem taken_eq (t : IVec S4 32) (ht : ∀ k, t (ix1 k) = word (σ k)) (j : Fin 4) : taken t (ix1 j) = word (σ.symm j) := by
  rw [← wrap_word (σ.symm j), ← order_eq σ t ht j]
  rfl

/-- The numbers of the reference's gather: axis 0 of the operand is taken, axes 1 and 2 are kept. -/
abbrev dims : GatherDims S4x1024x1024 S4x1 S4x1024x1024 := gather_S4x1024x1024_S4x1_S4x1024x1024_12_0_n_n_0_1_110241024

/-- On a kept axis the operand's coordinate is the result's. -/
theorem kept_at (p : IVec S4x1 32) (j : S4x1024x1024.Idx) (a : Fin 3) (ha : a ∉ [(0 : Fin 3)]) (b : Fin 3) (hb : dims.offCoord j a = (j b).val) :
    (dims.operandIdx j p a).val = (j b).val := by
  have h1 : dims.start j p a = 0 := by unfold GatherDims.start; exact dif_neg ha
  have h2 : dims.batchCoord j a = 0 := GatherDims.batchCoord_eq_zero _ _ _ List.not_mem_nil
  show dims.start j p a + dims.batchCoord j a + dims.offCoord j a = _
  rw [h1, h2, hb, Nat.zero_add]

/-- On the taken axis it is the start index, signed and clamped. -/
theorem taken_at (p : IVec S4x1 32) (j : S4x1024x1024.Idx) : (dims.operandIdx j p 0).val = min (p (ix2 (n0 := 4) (n1 := 1) (j 0) 0)).toInt.toNat 3 := by
  have h2 : dims.batchCoord j 0 = 0 := GatherDims.batchCoord_eq_zero _ _ _ List.not_mem_nil
  have h3 : dims.offCoord j 0 = 0 := GatherDims.offCoord_eq_zero _ _ _ fun h => ((GatherDims.mem_sKept _ _).mp h).1 (List.mem_singleton.mpr rfl)
  show dims.start j p 0 + dims.batchCoord j 0 + dims.offCoord j 0 = _
  rw [h2, h3]
  show dims.start j p 0 = _
  unfold GatherDims.start
  refine (dif_pos (List.mem_singleton.mpr rfl)).trans (congrArg (fun q => min (p q).toInt.toNat 3) (funext fun b => Fin.ext ?_))
  match b with
  | ⟨0, _⟩ => rfl
  | ⟨1, _⟩ => rfl

/-- The blocks of `x` permuted: block `i` is `x`'s block `σ⁻¹ i`. -/
def permuted (x : FVec F S4x1024x1024 .f32) : FVec F S4x1024x1024 .f32 := fun j => x (ix3 (σ.symm (j 0)) (j 1) (j 2))

/-- The reference's composed term, as its run states it. -/
abbrev refTerm (x : FVec F S4x1024x1024 .f32) (t : IVec S4 32) : FVec F S4x1024x1024 .f32 :=
  Host.gather gather_S4x1024x1024_S4x1_S4x1024x1024_12_0_n_n_0_1_110241024 x (broadcastInDim S4x1 ![0] bcast_S4_S4x1_0 (taken t))

theorem clamp_word : ∀ j : Fin 4, min (word j).toInt.toNat 3 = j.val := by decide

/-- For a table that spells `σ`, the reference's result is the argument with its blocks permuted. -/
theorem refTerm_eq (x : FVec F S4x1024x1024 .f32) (t : IVec S4 32) (ht : ∀ k, t (ix1 k) = word (σ k)) : refTerm x t = permuted σ x := by
  funext j
  refine congrArg x (funext fun a => Fin.ext ?_)
  match a with
  | ⟨0, _⟩ =>
    refine (taken_at _ j).trans (Eq.trans (congrArg (fun w : BitVec 32 => min w.toInt.toNat 3) ?_) (clamp_word (σ.symm (j 0))))
    rw [← taken_eq σ t ht (j 0)]
    refine congrArg (taken t) (funext fun a => ?_)
    obtain rfl : a = 0 := Subsingleton.elim _ _
    rfl
  | ⟨1, _⟩ => exact kept_at _ j 1 (by decide) 1 rfl
  | ⟨2, _⟩ => exact kept_at _ j 2 (by decide) 2 rfl

end Cert.PermuteProof

end
-- ==== Proof.Value.lean ====
/-
# The equation

A device's block of an array over the mesh is the array's block at the device's position on the last axis. So where the
kernel leaves a device its sender's block, it leaves the device its block of the permuted array.
-/
module

public import proofs.«01_k».proof.Proof.Reference
public import Idealize.ShloMosaic.Lib.Layout

@[expose] public section

noncomputable section

namespace Cert.PermuteProof

open Cert.KernelIdeal Cert.KernelIdeal.Gen
open Idealize.ShloMosaic Idealize.ShloMosaic.ValueIdx

variable {F : FTy → Type} [FloatOps F] (σ : Equiv.Perm (Fin 4))

/-- Device `c`'s block of an array of four blocks. -/
abbrev blockOf {α : Type} (c : Dev nD) (v : ReferenceIdeal.S4x1024x1024.Idx → α) : S1x1024x1024.Idx → α :=
  Layout.blockN ⟨3, ![1, 1024, 1024]⟩ ⟨3, ![4, 1024, 1024]⟩ (Layout.meshBlock [2, 2, 4] ![[2], [], []] c) v

/-- It is the block at the device's position on the last axis. -/
theorem blockOf_apply {α : Type} (c : Dev nD) (v : ReferenceIdeal.S4x1024x1024.Idx → α) (i : S1x1024x1024.Idx) :
    blockOf c v i = v (ix3 (pos c) (i 1) (i 2)) := by
  rw [blockOf, Layout.blockN_apply]
  refine congrArg v (funext fun b => Fin.ext ?_)
  rw [Layout.TilesN.idx_val]
  match b with
  | ⟨0, _⟩ =>
    have h0 : (i 0).val = 0 := by have : (i 0).val < 1 := (i 0).isLt; omega
    show Layout.meshLin [2, 2, 4] c.val [2] * 1 + (i 0).val = c.val % 4
    rw [h0]
    revert c; decide
  | ⟨1, _⟩ => show 0 * 1024 + (i 1).val = (i 1).val; omega
  | ⟨2, _⟩ => show 0 * 1024 + (i 2).val = (i 2).val; omega

/-- The sender's block of an array is the device's block of the permuted array. -/
theorem blockOf_move (c : Dev nD) (v : FVec F ReferenceIdeal.S4x1024x1024 .f32) : blockOf (move σ.symm c) v = blockOf c (permuted σ v) := by
  funext i
  rw [blockOf_apply, blockOf_apply]
  unfold permuted move
  rw [pos_at]

end Cert.PermuteProof

end
-- ==== Proof.Condition.lean ====
/-
# The predicates

Each claim assumes that every device's table is one given permutation. The 24 predicates that say so are one text with four
numbers in it; `spelled` is that text with the numbers left open, and every predicate is `spelled` at its own.
-/
module

public import proofs.«01_k».proof.Proof.Table
public import proofs.«01_k».proof.Proof.Gen.Pre_pi_0123_Kernel
public import proofs.«01_k».proof.Proof.Gen.Pre_pi_0132_Kernel
public import proofs.«01_k».proof.Proof.Gen.Pre_pi_0213_Kernel
public import proofs.«01_k».proof.Proof.Gen.Pre_pi_0231_Kernel
public import proofs.«01_k».proof.Proof.Gen.Pre_pi_0312_Kernel
public import proofs.«01_k».proof.Proof.Gen.Pre_pi_0321_Kernel
public import proofs.«01_k».proof.Proof.Gen.Pre_pi_1023_Kernel
public import proofs.«01_k».proof.Proof.Gen.Pre_pi_1032_Kernel
public import proofs.«01_k».proof.Proof.Gen.Pre_pi_1203_Kernel
public import proofs.«01_k».proof.Proof.Gen.Pre_pi_1230_Kernel
public import proofs.«01_k».proof.Proof.Gen.Pre_pi_1302_Kernel
public import proofs.«01_k».proof.Proof.Gen.Pre_pi_1320_Kernel
public import proofs.«01_k».proof.Proof.Gen.Pre_pi_2013_Kernel
public import proofs.«01_k».proof.Proof.Gen.Pre_pi_2031_Kernel
public import proofs.«01_k».proof.Proof.Gen.Pre_pi_2103_Kernel
public import proofs.«01_k».proof.Proof.Gen.Pre_pi_2130_Kernel
public import proofs.«01_k».proof.Proof.Gen.Pre_pi_2301_Kernel
public import proofs.«01_k».proof.Proof.Gen.Pre_pi_2310_Kernel
public import proofs.«01_k».proof.Proof.Gen.Pre_pi_3012_Kernel
public import proofs.«01_k».proof.Proof.Gen.Pre_pi_3021_Kernel
public import proofs.«01_k».proof.Proof.Gen.Pre_pi_3102_Kernel
public import proofs.«01_k».proof.Proof.Gen.Pre_pi_3120_Kernel
public import proofs.«01_k».proof.Proof.Gen.Pre_pi_3201_Kernel
public import proofs.«01_k».proof.Proof.Gen.Pre_pi_3210_Kernel

@[expose] public section

noncomputable section

namespace Cert.PermuteProof

open Cert.KernelIdeal Cert.KernelIdeal.Gen
open Idealize.ShloMosaic Idealize.ShloMosaic.TcCoe Idealize.ShloMosaic.ValueIdx

/-- A predicate of one device's arguments, for any float values. -/
abbrev Predicate : Type 1 := ∀ (F : FTy → Type) [FloatOps F], FVec F S1x1024x1024 .f32 → IVec S4 32 → IVec S4 1

/-- Word `0` of a one-word slice, compared with the word `v`. -/
abbrev compared (s : IVec (⟨1, ![1]⟩ : Shape) 32) (v : BitVec 32) : IVec (⟨1, ![1]⟩ : Shape) 1 :=
  broadcastInDim ⟨1, ![1]⟩ ![] (by decide : (⟨0, ![]⟩ : Shape).BroadcastsInDim ⟨1, ![1]⟩ (![] : Fin 0 → Fin 1))
    (cmpi .eq (shapeCast ⟨0, ![]⟩ s (by decide)) (constantI ⟨0, ![]⟩ 32 v))

/-- The predicates' text: the four words of `t`, each compared with its word of `w`. -/
def spelled (w : Fin 4 → BitVec 32) (t : IVec S4 32) : IVec S4 1 :=
  concatenate S4 0
    [⟨⟨1, ![1]⟩, compared (extractStridedSlice ⟨1, ![1]⟩ ![0] t (by decide)) (w 0)⟩, ⟨⟨1, ![1]⟩, compared (extractStridedSlice ⟨1, ![1]⟩ ![1] t (by decide)) (w 1)⟩,
     ⟨⟨1, ![1]⟩, compared (extractStridedSlice ⟨1, ![1]⟩ ![2] t (by decide)) (w 2)⟩, ⟨⟨1, ![1]⟩, compared (extractStridedSlice ⟨1, ![1]⟩ ![3] t (by decide)) (w 3)⟩]
    (by decide : Shape.Concatenates [⟨1, ![1]⟩, ⟨1, ![1]⟩, ⟨1, ![1]⟩, ⟨1, ![1]⟩] S4 0)

/-- A one-word slice holds the word it was cut at. -/
theorem slice_at (t : IVec S4 32) (k : Fin 4) (hk : S4.Slices ![k.val] ⟨1, ![1]⟩) (q : (⟨1, ![1]⟩ : Shape).Idx) :
    extractStridedSlice ⟨1, ![1]⟩ ![k.val] t hk q = t (ix1 k) := by
  have hq : (q 0).val = 0 := by have : (q 0).val < 1 := (q 0).isLt; omega
  refine congrArg t (funext fun a => ?_)
  obtain rfl : a = 0 := Subsingleton.elim _ _
  exact Fin.ext (by show k.val + (q 0).val = k.val; omega)

/-- Comparing a one-word slice compares its word. -/
theorem compared_at (s : IVec (⟨1, ![1]⟩ : Shape) 32) (v a : BitVec 32) (h : ∀ q, s q = a) (i : (⟨1, ![1]⟩ : Shape).Idx) :
    compared s v i = IntOp.cmpi .eq a v := congrArg (fun b => IntOp.cmpi .eq b v) (h _)

/-- Element `j` of `spelled` compares word `j`. -/
theorem spelled_at (w : Fin 4 → BitVec 32) (t : IVec S4 32) (j : Fin 4) : spelled w t (ix1 j) = IntOp.cmpi .eq (t (ix1 j)) (w j) := by
  match j with
  | 0 => exact compared_at _ (w 0) _ (slice_at t 0 _) (ix1 0)
  | 1 => exact compared_at _ (w 1) _ (slice_at t 1 _) (ix1 0)
  | 2 => exact compared_at _ (w 2) _ (slice_at t 2 _) (ix1 0)
  | 3 => exact compared_at _ (w 3) _ (slice_at t 3 _) (ix1 0)

/-- A predicate says that the table spells some permutation. -/
def Spells (f : Predicate) : Prop :=
  ∃ σ : Equiv.Perm (Fin 4), ∀ (F : FTy → Type) [FloatOps F] (x : FVec F S1x1024x1024 .f32) (t : IVec S4 32), f F x t = spelled (fun j => word (σ j)) t

/-- `spelled` at the words of four positions, all different, says so. -/
theorem Spells.of (w : Fin 4 → Fin 4) (hw : Function.Bijective w) : Spells fun F _ x t => spelled (fun j => word (w j)) t :=
  ⟨Equiv.ofBijective w hw, fun F _ x t => rfl⟩

/-- Where a predicate holds of every device's arguments, the launch memory is as the proof asks. -/
theorem Spells.preOK {f : Predicate} (h : Spells f) : ∃ σ : Equiv.Perm (Fin 4), ∀ (F : FTy → Type) [FloatOps F] (m : (ℓ : Loc nD τ sig) → Buf (Elt F) ℓ),
    (∀ c : Dev nD, f F (m ((c : Thread nD τ).loc main_arg0)) (m ((c : Thread nD τ).loc main_arg1)) = fun _ => 1#1) → PreOK m σ := by
  obtain ⟨σ, hσ⟩ := h
  refine ⟨σ, fun F _ m hm c j => ?_⟩
  have e := congrFun (hm c) (ix1 j)
  rw [hσ, spelled_at] at e
  have hb : ∀ b : Bool, BitVec.ofBool b = 1#1 → b = true := by decide
  exact eq_of_beq (hb _ e)

/-! ## Every predicate is such a one -/

theorem pi_0123 : Spells fun F _ => Pre_pi_0123_Kernel.fn := .of ![0, 1, 2, 3] (by decide)
theorem pi_0132 : Spells fun F _ => Pre_pi_0132_Kernel.fn := .of ![0, 1, 3, 2] (by decide)
theorem pi_0213 : Spells fun F _ => Pre_pi_0213_Kernel.fn := .of ![0, 2, 1, 3] (by decide)
theorem pi_0231 : Spells fun F _ => Pre_pi_0231_Kernel.fn := .of ![0, 2, 3, 1] (by decide)
theorem pi_0312 : Spells fun F _ => Pre_pi_0312_Kernel.fn := .of ![0, 3, 1, 2] (by decide)
theorem pi_0321 : Spells fun F _ => Pre_pi_0321_Kernel.fn := .of ![0, 3, 2, 1] (by decide)
theorem pi_1023 : Spells fun F _ => Pre_pi_1023_Kernel.fn := .of ![1, 0, 2, 3] (by decide)
theorem pi_1032 : Spells fun F _ => Pre_pi_1032_Kernel.fn := .of ![1, 0, 3, 2] (by decide)
theorem pi_1203 : Spells fun F _ => Pre_pi_1203_Kernel.fn := .of ![1, 2, 0, 3] (by decide)
theorem pi_1230 : Spells fun F _ => Pre_pi_1230_Kernel.fn := .of ![1, 2, 3, 0] (by decide)
theorem pi_1302 : Spells fun F _ => Pre_pi_1302_Kernel.fn := .of ![1, 3, 0, 2] (by decide)
theorem pi_1320 : Spells fun F _ => Pre_pi_1320_Kernel.fn := .of ![1, 3, 2, 0] (by decide)
theorem pi_2013 : Spells fun F _ => Pre_pi_2013_Kernel.fn := .of ![2, 0, 1, 3] (by decide)
theorem pi_2031 : Spells fun F _ => Pre_pi_2031_Kernel.fn := .of ![2, 0, 3, 1] (by decide)
theorem pi_2103 : Spells fun F _ => Pre_pi_2103_Kernel.fn := .of ![2, 1, 0, 3] (by decide)
theorem pi_2130 : Spells fun F _ => Pre_pi_2130_Kernel.fn := .of ![2, 1, 3, 0] (by decide)
theorem pi_2301 : Spells fun F _ => Pre_pi_2301_Kernel.fn := .of ![2, 3, 0, 1] (by decide)
theorem pi_2310 : Spells fun F _ => Pre_pi_2310_Kernel.fn := .of ![2, 3, 1, 0] (by decide)
theorem pi_3012 : Spells fun F _ => Pre_pi_3012_Kernel.fn := .of ![3, 0, 1, 2] (by decide)
theorem pi_3021 : Spells fun F _ => Pre_pi_3021_Kernel.fn := .of ![3, 0, 2, 1] (by decide)
theorem pi_3102 : Spells fun F _ => Pre_pi_3102_Kernel.fn := .of ![3, 1, 0, 2] (by decide)
theorem pi_3120 : Spells fun F _ => Pre_pi_3120_Kernel.fn := .of ![3, 1, 2, 0] (by decide)
theorem pi_3201 : Spells fun F _ => Pre_pi_3201_Kernel.fn := .of ![3, 2, 0, 1] (by decide)
theorem pi_3210 : Spells fun F _ => Pre_pi_3210_Kernel.fn := .of ![3, 2, 1, 0] (by decide)

end Cert.PermuteProof

end
-- ==== Proof.lean ====
/-
# The claims

`frame_kernel` and `frame_ideal` are the frames of the kernel as printed and of its idealization, `frame_reference` is the
reference's, `value` the equation: each is proved once, for any predicate that says that the table spells a permutation.
`claim` takes them at the 24 predicates.
-/
module

public import proofs.«01_k».proof.Defs
public import proofs.«01_k».proof.Proof.Same
public import proofs.«01_k».proof.Proof.Launch
public import proofs.«01_k».proof.Proof.Value
public import proofs.«01_k».proof.Proof.Condition
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_pi_0123_Kernel
public import proofs.«01_k».proof.Proof.Gen.Pre_pi_0132_Kernel
public import proofs.«01_k».proof.Proof.Gen.Pre_pi_0213_Kernel
public import proofs.«01_k».proof.Proof.Gen.Pre_pi_0231_Kernel
public import proofs.«01_k».proof.Proof.Gen.Pre_pi_0312_Kernel
public import proofs.«01_k».proof.Proof.Gen.Pre_pi_0321_Kernel
public import proofs.«01_k».proof.Proof.Gen.Pre_pi_1023_Kernel
public import proofs.«01_k».proof.Proof.Gen.Pre_pi_1032_Kernel
public import proofs.«01_k».proof.Proof.Gen.Pre_pi_1203_Kernel
public import proofs.«01_k».proof.Proof.Gen.Pre_pi_1230_Kernel
public import proofs.«01_k».proof.Proof.Gen.Pre_pi_1302_Kernel
public import proofs.«01_k».proof.Proof.Gen.Pre_pi_1320_Kernel
public import proofs.«01_k».proof.Proof.Gen.Pre_pi_2013_Kernel
public import proofs.«01_k».proof.Proof.Gen.Pre_pi_2031_Kernel
public import proofs.«01_k».proof.Proof.Gen.Pre_pi_2103_Kernel
public import proofs.«01_k».proof.Proof.Gen.Pre_pi_2130_Kernel
public import proofs.«01_k».proof.Proof.Gen.Pre_pi_2301_Kernel
public import proofs.«01_k».proof.Proof.Gen.Pre_pi_2310_Kernel
public import proofs.«01_k».proof.Proof.Gen.Pre_pi_3012_Kernel
public import proofs.«01_k».proof.Proof.Gen.Pre_pi_3021_Kernel
public import proofs.«01_k».proof.Proof.Gen.Pre_pi_3102_Kernel
public import proofs.«01_k».proof.Proof.Gen.Pre_pi_3120_Kernel
public import proofs.«01_k».proof.Proof.Gen.Pre_pi_3201_Kernel
public import proofs.«01_k».proof.Proof.Gen.Pre_pi_3210_Kernel
public import proofs.«01_k».proof.Proof.Gen.Pre_pi_0123_ReferenceIdeal
public import proofs.«01_k».proof.Proof.Gen.Pre_pi_0132_ReferenceIdeal
public import proofs.«01_k».proof.Proof.Gen.Pre_pi_0213_ReferenceIdeal
public import proofs.«01_k».proof.Proof.Gen.Pre_pi_0231_ReferenceIdeal
public import proofs.«01_k».proof.Proof.Gen.Pre_pi_0312_ReferenceIdeal
public import proofs.«01_k».proof.Proof.Gen.Pre_pi_0321_ReferenceIdeal
public import proofs.«01_k».proof.Proof.Gen.Pre_pi_1023_ReferenceIdeal
public import proofs.«01_k».proof.Proof.Gen.Pre_pi_1032_ReferenceIdeal
public import proofs.«01_k».proof.Proof.Gen.Pre_pi_1203_ReferenceIdeal
public import proofs.«01_k».proof.Proof.Gen.Pre_pi_1230_ReferenceIdeal
public import proofs.«01_k».proof.Proof.Gen.Pre_pi_1302_ReferenceIdeal
public import proofs.«01_k».proof.Proof.Gen.Pre_pi_1320_ReferenceIdeal
public import proofs.«01_k».proof.Proof.Gen.Pre_pi_2013_ReferenceIdeal
public import proofs.«01_k».proof.Proof.Gen.Pre_pi_2031_ReferenceIdeal
public import proofs.«01_k».proof.Proof.Gen.Pre_pi_2103_ReferenceIdeal
public import proofs.«01_k».proof.Proof.Gen.Pre_pi_2130_ReferenceIdeal
public import proofs.«01_k».proof.Proof.Gen.Pre_pi_2301_ReferenceIdeal
public import proofs.«01_k».proof.Proof.Gen.Pre_pi_2310_ReferenceIdeal
public import proofs.«01_k».proof.Proof.Gen.Pre_pi_3012_ReferenceIdeal
public import proofs.«01_k».proof.Proof.Gen.Pre_pi_3021_ReferenceIdeal
public import proofs.«01_k».proof.Proof.Gen.Pre_pi_3102_ReferenceIdeal
public import proofs.«01_k».proof.Proof.Gen.Pre_pi_3120_ReferenceIdeal
public import proofs.«01_k».proof.Proof.Gen.Pre_pi_3201_ReferenceIdeal
public import proofs.«01_k».proof.Proof.Gen.Pre_pi_3210_ReferenceIdeal
public import Idealize.ShloMosaic.Adequacy
public import Idealize.ShloMosaic.Init

@[expose] public section

noncomputable section

namespace Cert.Proof

open Idealize.ShloMosaic Idealize.ShloMosaic.TcCoe Idealize.SL.Sem
open Cert.PermuteProof

/-- The frame of the idealized kernel under a predicate, as the claims state it, for any float values. -/
def Framed (F : FTy → Type) [FloatOps F] (f : Predicate) : Prop :=
  ∀ (m : (ℓ : Loc KernelIdeal.nD KernelIdeal.τ KernelIdeal.sig) → Buf (Elt F) ℓ) (g : Dev KernelIdeal.nD → PrngReg),
    (∀ c : Dev KernelIdeal.nD, f F (m ((c : Thread KernelIdeal.nD KernelIdeal.τ).loc KernelIdeal.main_arg0)) (m ((c : Thread KernelIdeal.nD KernelIdeal.τ).loc KernelIdeal.main_arg1)) = fun _ => 1#1) →
    θ_run (KernelIdeal.defs (F := F)) (onTc (τ := KernelIdeal.τ) (KernelIdeal.main (F := F))) ⟨m, fun _ => 0, g⟩ fun r =>
      (∀ c : Dev KernelIdeal.nD, r.2.mem ((c : Thread KernelIdeal.nD KernelIdeal.τ).loc KernelIdeal.main_arg0) = m ((c : Thread KernelIdeal.nD KernelIdeal.τ).loc KernelIdeal.main_arg0)
        ∧ r.2.mem ((c : Thread KernelIdeal.nD KernelIdeal.τ).loc KernelIdeal.main_arg1) = m ((c : Thread KernelIdeal.nD KernelIdeal.τ).loc KernelIdeal.main_arg1))
      ∧ r.2.sem = fun _ => 0

/-- It holds under every predicate that says that the table spells a permutation. -/
theorem framed (F : FTy → Type) [FloatOps F] {f : Predicate} (hf : Spells f) : Framed F f := fun m g hm => by
  obtain ⟨σ, hσ⟩ := hf.preOK
  exact (θ_run KernelIdeal.defs _ _).mono (fun _ h => ⟨fun c => ⟨(h.1 c).1, (h.1 c).2.1⟩, h.2⟩) (run_main m g σ (hσ F m hm))

theorem frame_ideal {f : Predicate} (hf : Spells f) : Framed Ideal f := framed Ideal hf

/-- The same of the kernel as printed, at the machine's floats: its text is the idealized kernel's. -/
def FramedKernel (f : Predicate) : Prop :=
  ∀ (m : (ℓ : Loc Kernel.nD Kernel.τ Kernel.sig) → Buf (Elt Bits) ℓ) (g : Dev Kernel.nD → PrngReg),
    (∀ c : Dev Kernel.nD, f Bits (m ((c : Thread Kernel.nD Kernel.τ).loc Kernel.main_arg0)) (m ((c : Thread Kernel.nD Kernel.τ).loc Kernel.main_arg1)) = fun _ => 1#1) →
    θ_run (Kernel.defs (F := Bits)) (onTc (τ := Kernel.τ) (Kernel.main (F := Bits))) ⟨m, fun _ => 0, g⟩ fun r =>
      (∀ c : Dev Kernel.nD, r.2.mem ((c : Thread Kernel.nD Kernel.τ).loc Kernel.main_arg0) = m ((c : Thread Kernel.nD Kernel.τ).loc Kernel.main_arg0)
        ∧ r.2.mem ((c : Thread Kernel.nD Kernel.τ).loc Kernel.main_arg1) = m ((c : Thread Kernel.nD Kernel.τ).loc Kernel.main_arg1))
      ∧ r.2.sem = fun _ => 0

theorem frame_kernel {f : Predicate} (hf : Spells f) : FramedKernel f := fun m g hm => by
  rw [defs_same]
  exact framed Bits hf m g hm

/-- The reference's frame. -/
theorem frame_reference (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ fun r =>
      (∀ c : Dev ReferenceIdeal.nD, r.2.mem ((c : Thread ReferenceIdeal.nD ReferenceIdeal.τ).loc ReferenceIdeal.main_arg0) = m ((c : Thread ReferenceIdeal.nD ReferenceIdeal.τ).loc ReferenceIdeal.main_arg0)
        ∧ r.2.mem ((c : Thread ReferenceIdeal.nD ReferenceIdeal.τ).loc ReferenceIdeal.main_arg1) = m ((c : Thread ReferenceIdeal.nD ReferenceIdeal.τ).loc ReferenceIdeal.main_arg1))
      ∧ r.2.sem = fun _ => 0 :=
  (θ_run ReferenceIdeal.defs _ _).mono (fun r h => ⟨fun c => (h c).2, sem_eq_zero_of_no_sems rfl r.2⟩) (ReferenceIdeal.Value.run m g)

/-- The equation under a predicate, as the claims state it: from memories where every device's block is its block of the
    reference's argument and every device's table the reference's, both run and the kernel leaves every device its block of
    the reference's result. -/
def Valued (f : Predicate) : Prop :=
  ∀ (m : (ℓ : Loc KernelIdeal.nD KernelIdeal.τ KernelIdeal.sig) → Buf (Elt Ideal) ℓ) (g : Dev KernelIdeal.nD → PrngReg)
    (m' : (ℓ : Loc ReferenceIdeal.nD ReferenceIdeal.τ ReferenceIdeal.sig) → Buf (Elt Ideal) ℓ) (g' : Dev ReferenceIdeal.nD → PrngReg),
    (∀ c : Dev KernelIdeal.nD, f Ideal (m ((c : Thread KernelIdeal.nD KernelIdeal.τ).loc KernelIdeal.main_arg0)) (m ((c : Thread KernelIdeal.nD KernelIdeal.τ).loc KernelIdeal.main_arg1)) = fun _ => 1#1) →
    (∀ c : Dev KernelIdeal.nD,
      m ((c : Thread KernelIdeal.nD KernelIdeal.τ).loc KernelIdeal.main_arg0) = blockOf c (m' (((0 : Dev ReferenceIdeal.nD) : Thread ReferenceIdeal.nD ReferenceIdeal.τ).loc ReferenceIdeal.main_arg0))
      ∧ m ((c : Thread KernelIdeal.nD KernelIdeal.τ).loc KernelIdeal.main_arg1) = m' (((0 : Dev ReferenceIdeal.nD) : Thread ReferenceIdeal.nD ReferenceIdeal.τ).loc ReferenceIdeal.main_arg1)) →
    ∃ v0 : Buf (Elt Ideal) (((0 : Dev ReferenceIdeal.nD) : Thread ReferenceIdeal.nD ReferenceIdeal.τ).loc ReferenceIdeal.main_v7),
      θ_run (KernelIdeal.defs (F := Ideal)) (onTc (τ := KernelIdeal.τ) (KernelIdeal.main (F := Ideal))) ⟨m, fun _ => 0, g⟩ (fun r => ∀ c : Dev KernelIdeal.nD,
          r.2.mem ((c : Thread KernelIdeal.nD KernelIdeal.τ).loc KernelIdeal.main_v1) = blockOf c v0
          ∧ r.2.mem ((c : Thread KernelIdeal.nD KernelIdeal.τ).loc KernelIdeal.main_arg0) = m ((c : Thread KernelIdeal.nD KernelIdeal.τ).loc KernelIdeal.main_arg0)
          ∧ r.2.mem ((c : Thread KernelIdeal.nD KernelIdeal.τ).loc KernelIdeal.main_arg1) = m ((c : Thread KernelIdeal.nD KernelIdeal.τ).loc KernelIdeal.main_arg1))
      ∧ θ_run (ReferenceIdeal.defs (F := Ideal)) (onTc (τ := ReferenceIdeal.τ) (ReferenceIdeal.main (F := Ideal))) ⟨m', fun _ => 0, g'⟩ (fun r =>
          r.2.mem (((0 : Dev ReferenceIdeal.nD) : Thread ReferenceIdeal.nD ReferenceIdeal.τ).loc ReferenceIdeal.main_v7) = v0
          ∧ r.2.mem (((0 : Dev ReferenceIdeal.nD) : Thread ReferenceIdeal.nD ReferenceIdeal.τ).loc ReferenceIdeal.main_arg0) = m' (((0 : Dev ReferenceIdeal.nD) : Thread ReferenceIdeal.nD ReferenceIdeal.τ).loc ReferenceIdeal.main_arg0)
          ∧ r.2.mem (((0 : Dev ReferenceIdeal.nD) : Thread ReferenceIdeal.nD ReferenceIdeal.τ).loc ReferenceIdeal.main_arg1) = m' (((0 : Dev ReferenceIdeal.nD) : Thread ReferenceIdeal.nD ReferenceIdeal.τ).loc ReferenceIdeal.main_arg1))

/-- The value is the reference's argument with its blocks permuted: the reference's gather by the sorted positions is that,
    and a device's sender's block of the argument is its own block of that. -/
theorem value {f : Predicate} (hf : Spells f) : Valued f := fun m g m' g' hm hrel => by
  obtain ⟨σ, hσ⟩ := hf.preOK
  have hpre : PreOK m σ := hσ Ideal m hm
  refine ⟨permuted (F := Ideal) σ (m' (((0 : Dev ReferenceIdeal.nD) : Thread ReferenceIdeal.nD ReferenceIdeal.τ).loc ReferenceIdeal.main_arg0)), ?_, ?_⟩
  · refine (θ_run KernelIdeal.defs _ _).mono (fun _ h c => ⟨?_, (h.1 c).1, (h.1 c).2.1⟩) (run_main m g σ hpre)
    exact ((h.1 c).2.2.trans (hrel (move σ.symm c)).1).trans (blockOf_move (F := Ideal) σ c _)
  · refine (θ_run ReferenceIdeal.defs _ _).mono (fun _ h => ⟨(h 0).1.trans ?_, (h 0).2⟩) (ReferenceIdeal.Value.run m' g')
    exact refTerm_eq (F := Ideal) σ (m' (((0 : Dev ReferenceIdeal.nD) : Thread ReferenceIdeal.nD ReferenceIdeal.τ).loc ReferenceIdeal.main_arg0)) _
      fun k => (congrFun (hrel 0).2 _).symm.trans (hpre 0 k)

theorem claim : Cert.Claim :=
  ⟨Cert.Kernel.Gen.facts, Cert.KernelIdeal.Gen.facts, Cert.ReferenceIdeal.Gen.facts,
    Cert.Pre_pi_0123_Kernel.Gen.facts, Cert.Pre_pi_0132_Kernel.Gen.facts, Cert.Pre_pi_0213_Kernel.Gen.facts, Cert.Pre_pi_0231_Kernel.Gen.facts,
    Cert.Pre_pi_0312_Kernel.Gen.facts, Cert.Pre_pi_0321_Kernel.Gen.facts, Cert.Pre_pi_1023_Kernel.Gen.facts, Cert.Pre_pi_1032_Kernel.Gen.facts,
    Cert.Pre_pi_1203_Kernel.Gen.facts, Cert.Pre_pi_1230_Kernel.Gen.facts, Cert.Pre_pi_1302_Kernel.Gen.facts, Cert.Pre_pi_1320_Kernel.Gen.facts,
    Cert.Pre_pi_2013_Kernel.Gen.facts, Cert.Pre_pi_2031_Kernel.Gen.facts, Cert.Pre_pi_2103_Kernel.Gen.facts, Cert.Pre_pi_2130_Kernel.Gen.facts,
    Cert.Pre_pi_2301_Kernel.Gen.facts, Cert.Pre_pi_2310_Kernel.Gen.facts, Cert.Pre_pi_3012_Kernel.Gen.facts, Cert.Pre_pi_3021_Kernel.Gen.facts,
    Cert.Pre_pi_3102_Kernel.Gen.facts, Cert.Pre_pi_3120_Kernel.Gen.facts, Cert.Pre_pi_3201_Kernel.Gen.facts, Cert.Pre_pi_3210_Kernel.Gen.facts,
    Cert.Pre_pi_0123_ReferenceIdeal.Gen.facts, Cert.Pre_pi_0132_ReferenceIdeal.Gen.facts, Cert.Pre_pi_0213_ReferenceIdeal.Gen.facts, Cert.Pre_pi_0231_ReferenceIdeal.Gen.facts,
    Cert.Pre_pi_0312_ReferenceIdeal.Gen.facts, Cert.Pre_pi_0321_ReferenceIdeal.Gen.facts, Cert.Pre_pi_1023_ReferenceIdeal.Gen.facts, Cert.Pre_pi_1032_ReferenceIdeal.Gen.facts,
    Cert.Pre_pi_1203_ReferenceIdeal.Gen.facts, Cert.Pre_pi_1230_ReferenceIdeal.Gen.facts, Cert.Pre_pi_1302_ReferenceIdeal.Gen.facts, Cert.Pre_pi_1320_ReferenceIdeal.Gen.facts,
    Cert.Pre_pi_2013_ReferenceIdeal.Gen.facts, Cert.Pre_pi_2031_ReferenceIdeal.Gen.facts, Cert.Pre_pi_2103_ReferenceIdeal.Gen.facts, Cert.Pre_pi_2130_ReferenceIdeal.Gen.facts,
    Cert.Pre_pi_2301_ReferenceIdeal.Gen.facts, Cert.Pre_pi_2310_ReferenceIdeal.Gen.facts, Cert.Pre_pi_3012_ReferenceIdeal.Gen.facts, Cert.Pre_pi_3021_ReferenceIdeal.Gen.facts,
    Cert.Pre_pi_3102_ReferenceIdeal.Gen.facts, Cert.Pre_pi_3120_ReferenceIdeal.Gen.facts, Cert.Pre_pi_3201_ReferenceIdeal.Gen.facts, Cert.Pre_pi_3210_ReferenceIdeal.Gen.facts,
    frame_kernel pi_0123, frame_kernel pi_0132, frame_kernel pi_0213, frame_kernel pi_0231, frame_kernel pi_0312, frame_kernel pi_0321,
    frame_kernel pi_1023, frame_kernel pi_1032, frame_kernel pi_1203, frame_kernel pi_1230, frame_kernel pi_1302, frame_kernel pi_1320,
    frame_kernel pi_2013, frame_kernel pi_2031, frame_kernel pi_2103, frame_kernel pi_2130, frame_kernel pi_2301, frame_kernel pi_2310,
    frame_kernel pi_3012, frame_kernel pi_3021, frame_kernel pi_3102, frame_kernel pi_3120, frame_kernel pi_3201, frame_kernel pi_3210,
    frame_ideal pi_0123, frame_ideal pi_0132, frame_ideal pi_0213, frame_ideal pi_0231, frame_ideal pi_0312, frame_ideal pi_0321,
    frame_ideal pi_1023, frame_ideal pi_1032, frame_ideal pi_1203, frame_ideal pi_1230, frame_ideal pi_1302, frame_ideal pi_1320,
    frame_ideal pi_2013, frame_ideal pi_2031, frame_ideal pi_2103, frame_ideal pi_2130, frame_ideal pi_2301, frame_ideal pi_2310,
    frame_ideal pi_3012, frame_ideal pi_3021, frame_ideal pi_3102, frame_ideal pi_3120, frame_ideal pi_3201, frame_ideal pi_3210,
    fun m g _ => frame_reference m g,
    fun m g _ => frame_reference m g, fun m g _ => frame_reference m g, fun m g _ => frame_reference m g, fun m g _ => frame_reference m g, fun m g _ => frame_reference m g, fun m g _ => frame_reference m g,
    fun m g _ => frame_reference m g, fun m g _ => frame_reference m g, fun m g _ => frame_reference m g, fun m g _ => frame_reference m g, fun m g _ => frame_reference m g, fun m g _ => frame_reference m g,
    fun m g _ => frame_reference m g, fun m g _ => frame_reference m g, fun m g _ => frame_reference m g, fun m g _ => frame_reference m g, fun m g _ => frame_reference m g, fun m g _ => frame_reference m g,
    fun m g _ => frame_reference m g, fun m g _ => frame_reference m g, fun m g _ => frame_reference m g, fun m g _ => frame_reference m g, fun m g _ => frame_reference m g, fun m g _ => frame_reference m g,
    trivial,
    value pi_0123, value pi_0132, value pi_0213, value pi_0231, value pi_0312, value pi_0321,
    value pi_1023, value pi_1032, value pi_1203, value pi_1230, value pi_1302, value pi_1320,
    value pi_2013, value pi_2031, value pi_2103, value pi_2130, value pi_2301, value pi_2310,
    value pi_3012, value pi_3021, value pi_3102, value pi_3120, value pi_3201, value pi_3210⟩

end Cert.Proof

end
